-- ==== Defs.lean ====
def Pre_Kernel [hPre_label_in_range : Cert.Pre_label_in_range.Facts] (m : (ℓ : Loc Cert.Kernel.nD Cert.Kernel.τ Cert.Kernel.sig) → Buf (Elt Bits) ℓ) : Prop :=
  ∀ c : Dev Cert.Kernel.nD,
    (Cert.Pre_label_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_label_in_range : Cert.Pre_label_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_label_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_in_range [hPre_label_in_range : Cert.Pre_label_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_label_in_range : Cert.Pre_label_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_label_in_range : Cert.Pre_label_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_in_range [hReferenceIdeal : Cert.ReferenceIdeal.Facts] [hPre_label_in_range : Cert.Pre_label_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_label_in_range : Cert.Pre_label_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_in_range : Cert.Pre_label_in_range.Facts),
    quiescent_Kernel (hKernel := hKernel) (hPre_label_in_range := hPre_label_in_range)
    ∧ quiescent_KernelIdeal (hKernelIdeal := hKernelIdeal) (hPre_label_in_range := hPre_label_in_range)
    ∧ quiescent_ReferenceIdeal (hReferenceIdeal := hReferenceIdeal)
    ∧ quiescent_ReferenceIdeal_pre_label_in_range (hReferenceIdeal := hReferenceIdeal) (hPre_label_in_range := hPre_label_in_range)
    ∧ preserves_Kernel_KernelIdeal
    ∧ algebraic_KernelIdeal_ReferenceIdeal (hKernelIdeal := hKernelIdeal) (hReferenceIdeal := hReferenceIdeal) (hPre_label_in_range := hPre_label_in_range)
-- ==== Pre_label_in_range.lean ====
abbrev S16384x392 : Shape := ⟨2, ![16384, 392]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x392 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 392#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  main_v6
-- ==== Kernel.lean ====
abbrev S16384x392 : Shape := ⟨2, ![16384, 392]⟩
abbrev S16384 : Shape := ⟨1, ![16384]⟩
abbrev S6422528 : Shape := ⟨1, ![6422528]⟩
abbrev S32x16 : Shape := ⟨2, ![32, 16]⟩
abbrev S6272 : Shape := ⟨1, ![6272]⟩
abbrev S512 : Shape := ⟨1, ![512]⟩
abbrev S16 : Shape := ⟨1, ![16]⟩
abbrev S_ : Shape := ⟨0, ![]⟩
abbrev S1x16 : Shape := ⟨2, ![1, 16]⟩

abbrev nBuf : Table → Nat
  | .hbm => 8
  | .local .scVector .vmem => 3
  | _ => 0

abbrev bufTy : (tb : Table) → Fin (nBuf tb) → BufTy
  | .hbm, ⟨0, _⟩ => ⟨S16384x392, .f32⟩
  | .hbm, ⟨1, _⟩ => ⟨S16384, .i32⟩
  | .hbm, ⟨2, _⟩ => ⟨S6422528, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local .scVector .vmem, ⟨0, _⟩ => ⟨S6272, .f32⟩
  | .local .scVector .vmem, ⟨1, _⟩ => ⟨S512, .i32⟩
  | .local .scVector .vmem, ⟨2, _⟩ => ⟨S16, .f32⟩
  | _, _ => ⟨S16384x392, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg8 : BitVec 32 := Scf.iv c0_i32 c1_i32 k0_t1
  let c16_i32 : BitVec 32 := 16#32
  let v11 : BitVec 32 := Scalar.muli arg8 c16_i32
  let v12 : BitVec 32 := Scalar.addi v2 v11
  let c392_i32_2 : BitVec 32 := 392#32
  let v13 : BitVec 32 := Scalar.muli v12 c392_i32_2
  ![v13.toNat]
@[reducible] def k0_t2_loop : Scf.Loop 32 :=
  let c0_i32_3 : BitVec 32 := 0#32
  let c392_i32_4 : BitVec 32 := 392#32
  let v14 : BitVec 32 := Scalar.addi c0_i32_3 c392_i32_4
  let c1_i32_5 : BitVec 32 := 1#32
  ⟨c0_i32_3, v14, c1_i32_5⟩

def k0_chk1 (v50 : IVec S16 32) : Prop :=
  (∀ a x, ((![v50] : Fin 1 → IVec S16 32) a x).toNat < S6272.size a)
theorem k0_idx1_inb : ∀ (v50 : IVec S16 32) (k0_hw1 : k0_chk1 v50), ∀ a x, ((![v50] : Fin 1 → IVec S16 32) a x).toNat < S6272.size a := fun v50 k0_hw1 => k0_hw1

def k0_chk2 (v37 : IVec S16 32) : Prop :=
  (∀ a x, ((![v37] : Fin 1 → IVec S16 32) a x).toNat < S512.size a)
theorem k0_idx2_inb : ∀ (v37 : IVec S16 32) (k0_hw2 : k0_chk2 v37), ∀ a x, ((![v37] : Fin 1 → IVec S16 32) a x).toNat < S512.size a := fun v37 k0_hw2 => k0_hw2

def k0_chk3 (v39 : IVec S16 32) : Prop :=
  (∀ a x, ((![v39] : Fin 1 → IVec S16 32) a x).toNat < S6272.size a)
theorem k0_idx3_inb : ∀ (v39 : IVec S16 32) (k0_hw3 : k0_chk3 v39), ∀ a x, ((![v39] : Fin 1 → IVec S16 32) a x).toNat < S6272.size a := fun v39 k0_hw3 => k0_hw3
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x392 : Shape := ⟨2, ![16384, 392]⟩
abbrev S16384 : Shape := ⟨1, ![16384]⟩
abbrev S16384x1 : Shape := ⟨2, ![16384, 1]⟩
abbrev S1x392 : Shape := ⟨2, ![1, 392]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16384x392, .f32⟩
  | .hbm, ⟨1, _⟩ => ⟨S16384, .i32⟩
  | .hbm, ⟨2, _⟩ => ⟨S16384x1, .i32⟩
  | .hbm, ⟨3, _⟩ => ⟨S1x392, .i32⟩
  | .hbm, ⟨4, _⟩ => ⟨S16384x392, .i32⟩
  | .hbm, ⟨5, _⟩ => ⟨S16384x392, .i32⟩
  | .hbm, ⟨6, _⟩ => ⟨S16384x392, .i1⟩
  | .hbm, ⟨7, _⟩ => ⟨S16384x392, .i32⟩
  | .hbm, ⟨8, _⟩ => ⟨S16384x392, .f32⟩
  | .hbm, ⟨9, _⟩ => ⟨S16384x392, .f32⟩
  | .hbm, ⟨10, _⟩ => ⟨S16384x392, .f32⟩
  | .hbm, ⟨11, _⟩ => ⟨S16384x1, .f32⟩
  | .hbm, ⟨12, _⟩ => ⟨S16384, .f32⟩
  | .hbm, ⟨13, _⟩ => ⟨S16384x1, .f32⟩
  | .hbm, ⟨14, _⟩ => ⟨S16384x392, .f32⟩
  | .hbm, ⟨15, _⟩ => ⟨S16384x392, .i1⟩
  | .hbm, ⟨16, _⟩ => ⟨S16384x392, .i32⟩
  | .hbm, ⟨17, _⟩ => ⟨S_, .i32⟩
  | .hbm, ⟨18, _⟩ => ⟨S16384x392, .i32⟩
  | .hbm, ⟨19, _⟩ => ⟨S16384x392, .i1⟩
  | .hbm, ⟨20, _⟩ => ⟨S_, .i32⟩
  | .hbm, ⟨21, _⟩ => ⟨S16384x392, .i32⟩
  | .hbm, ⟨22, _⟩ => ⟨S16384x392, .i1⟩
  | .hbm, ⟨23, _⟩ => ⟨S16384x392, .i1⟩
  | .hbm, ⟨24, _⟩ => ⟨S16384x392, .f32⟩
  | .hbm, ⟨25, _⟩ => ⟨S_, .f32⟩
  | .hbm, ⟨26, _⟩ => ⟨S16384, .f32⟩
  | .hbm, ⟨27, _⟩ => ⟨S_, .i32⟩
  | .hbm, ⟨28, _⟩ => ⟨S16384x392, .i32⟩
  | .hbm, ⟨29, _⟩ => ⟨S16384x392, .i1⟩
  | .hbm, ⟨30, _⟩ => ⟨S_, .i32⟩
  | .hbm, ⟨31, _⟩ => ⟨S16384x392, .i32⟩
  | .hbm, ⟨32, _⟩ => ⟨S16384x392, .i1⟩
  | .hbm, ⟨33, _⟩ => ⟨S16384x392, .i1⟩
  | .hbm, ⟨34, _⟩ => ⟨S16384x392, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.IdealTile.lean ====
/-
  One vector subcore's task, run once at a symbolic pair of SparseCore and subcore, in any float instance: the label
  fetch, the loop over the thirty-two groups of sixteen rows (a group's fetch, the insertion loop over the classes, the
  two indexed loads, the accumulation) and the write-out of the sixteen partial sums. The contents are carried: what
  the task leaves in its row of the partial sums is `tileOut`, a closed term over the launch contents of the two
  operands (`tile_body`).

  This module is about the program at the extended reals; Proof/BitsTile is the same text for the other one, generic in the float instance like it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdxRank1
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 eq_ix1)

variable {F : FTy → Type}

/-! ## The program as the launch theorem sees it -/

/-- The labels of the program: those of the launch, over those of the kernels. -/
abbrev ΛP : Labels := Pipeline.Sig Λ₀ (Fin 0) fun p => (pcfgs (F := F) p).Adm
/-- The SparseCore configuration of the program. -/
abbrev K : SparseCore.Cfg τ sig (ΛP (F := F)) 1 := sc (F := F)
/-- The bodies of the program's labels. -/
abbrev D [FloatOps F] : Defs nD τ sig (Elt F) (ΛP (F := F)) := Pipeline.defs pcfgs defs₀
/-- No loop of the program needs a termination measure: the variants are the empty ones. -/
abbrev 𝒱₀ : Variants := Variants.none
/-- The same, over the labels of the launch. -/
abbrev 𝒱 : Variants := 𝒱₀.lift
/-- The variant at which every task starts. -/
abbrev v₀ : 𝒱.V := Sum.inl none

/-- The configuration's side conditions: the start and done handshakes of a SparseCore use different
    semaphores, no handshake's semaphore is scoped, and no array of a SparseCore is its tasks' in common. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

/-- The ghost state of the handshakes between the sequencers and the subcores. -/
abbrev UH : Type := URounds (GSem nD τ sig) ℕ
/-- The whole ghost state: the handshakes' and the counters of the local copies. -/
abbrev UU : Type := UH × Counters

local notation "𝕄" => MT nD τ sig (HIx 1) (Elt F) ℕ UU ℕ

/-- The handshakes' ghost state, in the whole. -/
abbrev EH : Emb UH (MT nD τ sig (HIx 1) (Elt F) ℕ UU ℕ) := embL

/-! ## The buffers -/

/-- The flattened probabilities, the labels and the partial sums, as locations of device `d`. -/
abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

local notation "xV" => (Memref.whole Cert.KernelIdeal.main_v0_scv : Memref Cert.KernelIdeal.sig Kind.scVector Space.hbm Cert.KernelIdeal.S6422528 EltTy.f32)
local notation "lV" => (Memref.whole Cert.KernelIdeal.main_arg1_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S6272 EltTy.f32)
local notation "sL" => (Memref.whole Cert.KernelIdeal.cc0_scratch1 : Memref Cert.KernelIdeal.sig Kind.scVector Space.vmem Cert.KernelIdeal.S512 EltTy.i32)
local notation "sA" => (Memref.whole Cert.KernelIdeal.cc0_scratch2 : Memref Cert.KernelIdeal.sig Kind.scVector Space.vmem Cert.KernelIdeal.S16 EltTy.f32)

/-! ## The task's coordinates and the slices it addresses -/

/-- The SparseCore of a task. -/
abbrev cV (L : grid0.Coords) : Fin τ.nSC := (L 0).castLE hcore0
/-- The subcore of a task. -/
abbrev jV (L : grid0.Coords) : Fin τ.nSub := (L 1).castLE hsub0

/-- There are two SparseCores. -/
theorem bound_zero : grid0.bound 0 = 2 := rfl
/-- There are sixteen subcores on each. -/
theorem bound_one : grid0.bound 1 = 16 := rfl

/-- The task's number: the row of the partial sums it writes. -/
def wid (L : grid0.Coords) : Fin 32 :=
  ⟨2 * (L 1).val + (L 0).val, by have h0 : (L 0).val < 2 := (L 0).isLt; have h1 : (L 1).val < 16 := (L 1).isLt; omega⟩

/-- The task's 512 labels, as a window of the labels. -/
abbrev lRect (L : grid0.Coords) : Rect S16384 := Rect.unit (s := S16384) (k0_off1 L) S512.size (k0_off1_inb L)
/-- Group `t`'s sixteen rows, as a window of the flattened probabilities. -/
abbrev xRect (L : grid0.Coords) (t : Fin k0_t1_loop.trips) : Rect S6422528 := Rect.unit (s := S6422528) (k0_off2 L t) S6272.size (k0_off2_inb L t)
/-- The task's row of the partial sums, as a window of them. -/
abbrev oRect (L : grid0.Coords) : Rect S32x16 := Rect.unit (s := S32x16) (k0_off3 L) S1x16.size (k0_off3_inb L)
/-- The task's 512 labels, group `t`'s sixteen rows, and the task's row of the partial sums (squeezed), as it addresses them. -/
abbrev lSl (L : grid0.Coords) : Memref sig .scVector .hbm S512 .i32 := (lV).slice (lRect L) (fun _ => rfl)
/-- The slice that the fetch of group `t` reads. -/
abbrev xSl (L : grid0.Coords) (t : Fin k0_t1_loop.trips) : Memref sig .scVector .hbm S6272 .f32 := (xV).slice (xRect L t) (fun _ => rfl)
/-- The slice that the write-out fills. -/
abbrev oSl (L : grid0.Coords) : Memref sig .scVector .hbm S16 .f32 := ((oV).slice (oRect L) (fun _ => rfl)).squeeze S16 squeezes_S1x16_S16

/-! ## The values -/

section Values

variable (x : S6422528.Idx → Elt F .f32) (lab : S16384.Idx → Elt F .i32)

/-- The labels a task fetches, and the sixteen rows it fetches in group `t`. -/
def labels (L : grid0.Coords) : Vec F S512 .i32 := (lSl L).view.read (Elt F) lab
/-- The sixteen rows of group `t`, flattened. -/
def chunk (L : grid0.Coords) (t : Fin k0_t1_loop.trips) : Vec F S6272 .f32 := (xSl L t).view.read (Elt F) x

/-- There are thirty-two groups. -/
theorem trips1 : k0_t1_loop.trips = 32 := by decide
/-- There are 392 classes. -/
theorem trips2 : k0_t2_loop.trips = 392 := by decide

/-- Label `j` of the task is the array's at the task's offset. -/
theorem labels_apply (L : grid0.Coords) (j : Fin 512) (n : Fin 16384) (hn : n.val = 1024 * (L 1).val + 512 * (L 0).val + j.val) :
    labels (F := F) lab L (ix1 j) = lab (ix1 n) := by
  refine ((View.read_apply _ _).trans (cast_eq _ _)).trans (congrArg lab ?_)
  refine funext fun (a : Fin 1) => Fin.ext ?_
  match a with
  | ⟨0, _⟩ =>
    show (k0_off1 L) 0 + 1 * j.val = n.val
    rw [k0_off1_eq, hn]; simp

/-- Word `j` of group `t`'s rows is the array's at the group's offset. -/
theorem chunk_apply (L : grid0.Coords) (t : Fin k0_t1_loop.trips) (j : Fin 6272) (n : Fin 6422528)
    (hn : n.val = 401408 * (L 1).val + 200704 * (L 0).val + 6272 * t.val + j.val) :
    chunk (F := F) x L t (ix1 j) = x (ix1 n) := by
  refine ((View.read_apply _ _).trans (cast_eq _ _)).trans (congrArg x ?_)
  refine funext fun (a : Fin 1) => Fin.ext ?_
  match a with
  | ⟨0, _⟩ =>
    show (k0_off2 L t) 0 + 1 * j.val = n.val
    rw [k0_off2_eq, hn]; simp

/-- The word a lane's row of the fetched sixteen starts at. -/
theorem pay1_toNat (y : S16.Idx) : (k0_pay1 y).toNat = 392 * (y 0).val := by
  have hy : (y 0).val < 16 := (y 0).isLt
  show (IntOp.muli (BitVec.ofNat 32 (0 * 16 + (y 0).val)) 392#32).toNat = _
  simp only [IntOp.muli, BitVec.toNat_mul, BitVec.toNat_ofNat]
  omega

/-- The word trip `k` of the insertion loop reads in a lane: class `k` of the lane's row. -/
theorem pay4_toNat (k : Fin k0_t2_loop.trips) (y : S16.Idx) : (k0_pay4 k y).toNat = 392 * (y 0).val + k.val := by
  have hy : (y 0).val < 16 := (y 0).isLt
  have hk : k.val < 392 := Nat.lt_of_lt_of_le k.isLt k0_t2_abs.2.1
  show (IntOp.addi (k0_pay1 y) (0#32 + BitVec.ofNat 32 k.val * 1#32)).toNat = _
  simp only [IntOp.addi, BitVec.toNat_add, pay1_toNat, BitVec.toNat_mul, BitVec.toNat_ofNat]
  omega

/-- The label trip `t` reads in a lane. -/
theorem pay15_toNat (t : Fin k0_t1_loop.trips) (y : S16.Idx) : (k0_pay15 t y).toNat = 16 * t.val + (y 0).val := by
  have hy : (y 0).val < 16 := (y 0).isLt
  have ht : t.val < 32 := Nat.lt_of_lt_of_le t.isLt k0_t1_abs.2.1
  show (IntOp.addi (IntOp.muli (0#32 + BitVec.ofNat 32 t.val * 1#32) 16#32) (BitVec.ofNat 32 (0 * 16 + (y 0).val))).toNat = _
  simp only [IntOp.addi, IntOp.muli, BitVec.toNat_add, BitVec.toNat_mul, BitVec.toNat_ofNat]
  omega

/-- The indices at which the insertion loop reads class `k` of the sixteen rows lie in the fetched rows. -/
theorem chk1_ok (k : Fin k0_t2_loop.trips) : k0_chk1 (k0_pay4 k) := by
  intro a y
  have hy : (y 0).val < 16 := (y 0).isLt
  have hk : k.val < 392 := Nat.lt_of_lt_of_le k.isLt k0_t2_abs.2.1
  match a with
  | ⟨0, _⟩ => show (k0_pay4 k y).toNat < 6272; rw [pay4_toNat]; omega

/-- The indices at which group `t` reads its sixteen labels lie in the fetched labels. -/
theorem chk2_ok (t : Fin k0_t1_loop.trips) : k0_chk2 (k0_pay15 t) := by
  intro a y
  have hy : (y 0).val < 16 := (y 0).isLt
  have ht : t.val < 32 := Nat.lt_of_lt_of_le t.isLt k0_t1_abs.2.1
  match a with
  | ⟨0, _⟩ => show (k0_pay15 t y).toNat < 512; rw [pay15_toNat]; omega

/-- A row's first word plus a class, as words, does not wrap. -/
theorem add_toNat {v w : BitVec 32} {b : ℕ} (hv : v.toNat = 392 * b) (hb : b < 16) (hw : w.toNat < 392) :
    (v + w).toNat = 392 * b + w.toNat := by
  rw [BitVec.toNat_add, hv]; omega

/-- What the proof asks of the labels: each is a class. -/
def LabOK : Prop := ∀ j : S16384.Idx, (show BitVec 32 from lab j).toNat < 392

/-- The sixteen labels of group `t`. -/
def lab16 (L : grid0.Coords) (t : Fin k0_t1_loop.trips) : Vec F S16 .i32 :=
  loadIdx (labels (F := F) lab L) ![k0_pay15 t] (k0_idx2_inb _ (chk2_ok t))

/-- Each of the sixteen labels of a group is a class. -/
theorem lab16_lt (hl : LabOK (F := F) lab) (L : grid0.Coords) (t : Fin k0_t1_loop.trips) (y : S16.Idx) :
    (show BitVec 32 from lab16 (F := F) lab L t y).toNat < 392 := by
  show (show BitVec 32 from (lSl L).view.read (Elt F) lab _).toNat < 392
  rw [View.read_apply]
  exact hl _

/-- The indices at which group `t` reads its labels' entries lie in the fetched rows. -/
theorem chk3_ok (hl : LabOK (F := F) lab) (L : grid0.Coords) (t : Fin k0_t1_loop.trips) :
    k0_chk3 (addi k0_pay1 (lab16 (F := F) lab L t)) := by
  intro a y
  have hy : (y 0).val < 16 := (y 0).isLt
  have h := lab16_lt lab hl L t y
  match a with
  | ⟨0, _⟩ =>
    show (k0_pay1 y + (show BitVec 32 from lab16 (F := F) lab L t y)).toNat < 6272
    rw [add_toNat (pay1_toNat y) hy h]
    exact (show 392 * (y 0).val + _ < 6272 from by omega)

variable [FloatOps F]

/-- The six largest entries so far, a vector of sixteen lanes for each. -/
abbrev Six (F : FTy → Type) : Type := FVec F S16 .f32 × FVec F S16 .f32 × FVec F S16 .f32 × FVec F S16 .f32 × FVec F S16 .f32 × FVec F S16 .f32

/-- One step of the insertion network: `v` inserted into the six kept. -/
def ins (a : Six F) (v : Vec F S16 .f32) : Six F :=
  (k0_pay5 a.1 v, k0_pay7 a.1 a.2.1 v, k0_pay9 a.1 a.2.1 a.2.2.1 v, k0_pay11 a.1 a.2.1 a.2.2.1 a.2.2.2.1 v,
    k0_pay13 a.1 a.2.1 a.2.2.1 a.2.2.2.1 a.2.2.2.2.1 v, k0_pay14 a.1 a.2.1 a.2.2.1 a.2.2.2.1 a.2.2.2.2.1 a.2.2.2.2.2 v)

/-- Class `k` of the sixteen rows. -/
def col (c : Vec F S6272 .f32) (k : Fin k0_t2_loop.trips) : Vec F S16 .f32 := loadIdx c ![k0_pay4 k] (k0_idx1_inb _ (chk1_ok k))

/-- The six kept after `n` classes. -/
def st2 (c : Vec F S6272 .f32) : ℕ → Six F
  | 0 => (k0_pay2, k0_pay2, k0_pay2, k0_pay2, k0_pay2, k0_pay2)
  | n + 1 => if h : n < k0_t2_loop.trips then ins (st2 c n) (col c ⟨n, h⟩) else st2 c n

/-- The rows' entries at their labels. -/
def pick (hl : LabOK (F := F) lab) (L : grid0.Coords) (t : Fin k0_t1_loop.trips) : Vec F S16 .f32 :=
  loadIdx (chunk (F := F) x L t) ![addi k0_pay1 (lab16 (F := F) lab L t)] (k0_idx3_inb _ (chk3_ok lab hl L t))

/-- The accumulator after one more group, from the six kept of it and the entries at the labels. -/
def accStep (a : FVec F S16 .f32) (s : Six F) (p : Vec F S16 .f32) : FVec F S16 .f32 :=
  k0_pay16 a s.1 s.2.1 s.2.2.1 s.2.2.2.1 s.2.2.2.2.1 s.2.2.2.2.2 p

/-- The accumulator after `n` groups. -/
def st1 (hl : LabOK (F := F) lab) (L : grid0.Coords) : ℕ → FVec F S16 .f32
  | 0 => k0_pay3
  | n + 1 => if h : n < k0_t1_loop.trips then accStep (st1 hl L n) (st2 (chunk (F := F) x L ⟨n, h⟩) k0_t2_loop.trips) (pick x lab hl L ⟨n, h⟩)
      else st1 hl L n

/-- What a task leaves in its row of the partial sums. -/
def tileOut (hl : LabOK (F := F) lab) (L : grid0.Coords) : FVec F S16 .f32 := st1 x lab hl L k0_t1_loop.trips

/-- The coordinates of task number `w`. -/
def coordsV (c : Fin (grid0.bound 0)) (s : Fin (grid0.bound 1)) : grid0.Coords :=
  fun | 0 => c | 1 => s | ⟨_ + 2, h⟩ => absurd h (Nat.not_lt.2 (Nat.le_add_left _ _))
/-- The task that has the number `w`. -/
def Lof (w : Fin 32) : grid0.Coords := coordsV ⟨w.val % 2, show _ < 2 by omega⟩ ⟨w.val / 2, show _ < 16 by omega⟩

/-- A task is the one that has its number. -/
theorem Lof_wid (L : grid0.Coords) : Lof (wid L) = L := by
  have h0 : (L 0).val < 2 := (L 0).isLt
  have h1 : (L 1).val < 16 := (L 1).isLt
  refine funext fun (a : Fin 2) => ?_
  match a with
  | ⟨0, _⟩ => exact Fin.ext (show (2 * (L 1).val + (L 0).val) % 2 = (L 0).val by omega)
  | ⟨1, _⟩ => exact Fin.ext (show (2 * (L 1).val + (L 0).val) / 2 = (L 1).val by omega)

/-- The partial sums, row by row. -/
def partials (hl : LabOK (F := F) lab) : S32x16.Idx → Elt F .f32 := fun i => tileOut x lab hl (Lof (i 0)) (ix1 (i 1))

end Values

end Cert.Proof.KI

end
-- ==== Proof.IdealBody.lean ====
/-
  One vector subcore's task, run once at a symbolic pair of SparseCore and subcore, in any float instance: the label
  fetch, the loop over the thirty-two groups of sixteen rows (a group's fetch, the insertion loop over the classes, the
  two indexed loads, the accumulation) and the write-out of the sixteen partial sums (`tile_body`).

  This module is about the program at the extended reals; Proof/BitsBody is the same text for the other one, generic in the float instance like it.
-/
module

public import proofs.«01_k».proof.Proof.IdealTile
public import Idealize.ShloMosaic.Lib.VecWindow

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S6422528 EltTy.f32)
local notation "lV" => (Memref.whole Cert.KernelIdeal.main_arg1_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S6272 EltTy.f32)
local notation "sL" => (Memref.whole Cert.KernelIdeal.cc0_scratch1 : Memref Cert.KernelIdeal.sig Kind.scVector Space.vmem Cert.KernelIdeal.S512 EltTy.i32)
local notation "sA" => (Memref.whole Cert.KernelIdeal.cc0_scratch2 : Memref Cert.KernelIdeal.sig Kind.scVector Space.vmem Cert.KernelIdeal.S16 EltTy.f32)

section Tile

variable (d : Dev nD) (L : grid0.Coords)

/-! ## The task's own cells and buffers -/

/-- The counter of the label fetch. -/
abbrev cAcell (d : Dev nD) (c : Fin τ.nSC) (i : Fin τ.nSub) : GSem nD τ sig := (V d c i, .dma cc0_scoped0.sem)
/-- The counter of the groups' fetches. -/
abbrev cBcell (d : Dev nD) (c : Fin τ.nSC) (i : Fin τ.nSub) : GSem nD τ sig := (V d c i, .dma cc0_scoped1.sem)
/-- The counter of the write-out. -/
abbrev cCcell (d : Dev nD) (c : Fin τ.nSC) (i : Fin τ.nSub) : GSem nD τ sig := (V d c i, .dma cc0_scoped2.sem)

/-- The three transfer counters are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The buffers as the task addresses them -/

/-- The task's set of the partial sums: its row. -/
abbrev oSet (L : grid0.Coords) : Finset S32x16.Idx := (oSl L).view.set

/-- Owning the flattened probabilities through the task's view of them is owning them. -/
theorem pts_xV (q : PosShare TreeShare) (f : Buf (Elt F) (xLoc d)) :
    ((xV).view.loc (V d (cV L) (jV L)) ↦{q} f : sProp 𝕄) = xLoc d ↦{q} f := rfl
/-- Likewise for the labels. -/
theorem pts_lV (q : PosShare TreeShare) (f : Buf (Elt F) (lLoc d)) :
    ((lV).view.loc (V d (cV L) (jV L)) ↦{q} f : sProp 𝕄) = lLoc d ↦{q} f := rfl
/-- Owning the task's row through the slice that the write-out fills is owning that row of the partial sums. -/
theorem pts_oSl (f : Buf (Elt F) (oLoc d)) :
    ((oSl L).view.loc (V d (cV L) (jV L)) ↦[(oSl L).view.set]{fullShare} f : sProp 𝕄) = oLoc d ↦[oSet L]{fullShare} f := rfl
/-- Owning the scratch of the fetched rows through its view is owning it. -/
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
/-- Likewise for the scratch of the labels. -/
theorem pts_sL (f : Buf (Elt F) ((V d (cV L) (jV L)).loc cc0_scratch1)) :
    ((sL).view.loc (V d (cV L) (jV L)) ↦{fullShare} f : sProp 𝕄) = (V d (cV L) (jV L)).loc cc0_scratch1 ↦{fullShare} f := rfl
/-- Likewise for the scratch of the sixteen sums. -/
theorem pts_sA (f : Buf (Elt F) ((V d (cV L) (jV L)).loc cc0_scratch2)) :
    ((sA).view.loc (V d (cV L) (jV L)) ↦{fullShare} f : sProp 𝕄) = (V d (cV L) (jV L)).loc cc0_scratch2 ↦{fullShare} f := rfl

/-- A fetch lands in its whole scratch what was fetched. -/
theorem lands_sB (f : Buf (Elt F) ((V d (cV L) (jV L)).loc cc0_scratch0)) (p c : Vec F S6272 .f32) (h : p = c) :
    ((sB).view.loc (V d (cV L) (jV L)) ↦{fullShare} View.write (Elt F) (sB).view f p Finset.univ : sProp 𝕄)
      = (sB).view.loc (V d (cV L) (jV L)) ↦{fullShare} c :=
  h ▸ congrArg _ (View.write_whole_univ _ _ _)
/-- The label fetch lands in its whole scratch what was fetched. -/
theorem lands_sL (f : Buf (Elt F) ((V d (cV L) (jV L)).loc cc0_scratch1)) (p c : Vec F S512 .i32) (h : p = c) :
    ((sL).view.loc (V d (cV L) (jV L)) ↦{fullShare} View.write (Elt F) (sL).view f p Finset.univ : sProp 𝕄)
      = (sL).view.loc (V d (cV L) (jV L)) ↦{fullShare} c :=
  h ▸ congrArg _ (View.write_whole_univ _ _ _)

/-- An indexed load reads its whole scratch. -/
theorem read_sB (f : Vec F S6272 .f32) : ((sB).access (.whole cc0_scratch0.ty.shape)).read (Elt F) f = f := by
  funext y
  refine ((View.read_apply _ _).trans (cast_eq _ _)).trans (congrArg f ?_)
  refine funext fun (a : Fin 1) => Fin.ext ?_
  match a with
  | ⟨0, _⟩ => show 0 + 1 * (y 0).val = (y 0).val; omega
/-- An indexed load of the labels reads their whole scratch. -/
theorem read_sL (f : Vec F S512 .i32) : ((sL).access (.whole cc0_scratch1.ty.shape)).read (Elt F) f = f := by
  funext y
  refine ((View.read_apply _ _).trans (cast_eq _ _)).trans (congrArg f ?_)
  refine funext fun (a : Fin 1) => Fin.ext ?_
  match a with
  | ⟨0, _⟩ => show 0 + 1 * (y 0).val = (y 0).val; omega

/-- Lane `j` of the task's row, in the whole array of partial sums. -/
theorem oSl_emb (j : S16.Idx) : (oSl L).view.emb j = (ix2 (wid L) (j 0) : S32x16.Idx) := by
  show ((oV).view.slice (oRect L)).emb (Shape.reshapeEquiv squeezes_S1x16_S16.numel_eq j) = _
  rw [show Shape.reshapeEquiv squeezes_S1x16_S16.numel_eq j = (Fin.cons ⟨0, Nat.one_pos⟩ j : S1x16.Idx) from
    Shape.reshapeEquiv_cons_one (d := ![16]) squeezes_S1x16_S16.numel_eq j]
  refine funext fun (a : Fin 2) => Fin.ext ?_
  match a with
  | ⟨0, _⟩ => show (k0_off3 L) 0 + 1 * 0 = _; rw [k0_off3_eq]; rfl
  | ⟨1, _⟩ => show (k0_off3 L) 1 + 1 * (j 0).val = _; rw [k0_off3_eq]; show 0 + 1 * (j 0).val = (j 0).val; omega

/-- Lane `j` of what the task leaves is its place in the whole array. -/
theorem partials_emb [FloatOps F] (x : S6422528.Idx → Elt F .f32) (lab : S16384.Idx → Elt F .i32) (hl : LabOK (F := F) lab) (j : S16.Idx) :
    partials x lab hl ((oSl L).view.emb j) = tileOut x lab hl L j := by
  rw [oSl_emb]
  show tileOut x lab hl (Lof (wid L)) (ix1 (n := 16) (j 0)) = _
  rw [Lof_wid]
  exact congrArg _ (eq_ix1 (n := 16) j).symm

/-- The task's row written with what the task leaves is the row of `partials`. -/
theorem pts_partials [FloatOps F] (x : S6422528.Idx → Elt F .f32) (lab : S16384.Idx → Elt F .i32) (hl : LabOK (F := F) lab) (fo : Buf (Elt F) (oLoc d)) :
    (oLoc d ↦[oSet L]{fullShare} View.write (Elt F) (oSl L).view fo (tileOut x lab hl L) Finset.univ : sProp 𝕄)
      = oLoc d ↦[oSet L]{fullShare} partials x lab hl := by
  refine pointsTo_congr fun i hi => ?_
  obtain ⟨j, -, rfl⟩ := Finset.mem_map.mp hi
  rw [partials_emb]
  exact (View.write_emb_of_mem _ _ (Finset.mem_univ j)).trans (cast_eq _ _)

/-- The accumulator's scratch after one store of all its lanes reads what was stored. -/
theorem read_stored (f : (sA).view.ty.Contents (Elt F)) (a : FVec F S16 .f32) :
    (sA).view.read (Elt F) ((sA).view.writes (Elt F) f [⟨Rect.unit ![0] S16.size inb_S16_S16_0, a⟩]) = a :=
  View.read_writes_full _ _ _ _ _

/-- The row after the copy out of the accumulator's scratch holds the task's partial sums. -/
theorem pts_out [FloatOps F] (x : S6422528.Idx → Elt F .f32) (lab : S16384.Idx → Elt F .i32) (hl : LabOK (F := F) lab)
    (fo : (oSl L).view.ty.Contents (Elt F)) (p : FVec F S16 .f32) (hp : p = tileOut x lab hl L) :
    ((oSl L).view.loc (V d (cV L) (jV L)) ↦[(oSl L).view.set]{fullShare} (oSl L).view.writes (Elt F) fo [⟨Rect.whole S16, p⟩] : sProp 𝕄)
      = oLoc d ↦[oSet L]{fullShare} partials x lab hl := by
  subst hp
  rw [← View.write_univ_eq_writes_whole, View.writes_nil]
  exact pts_partials d L x lab hl fo

/-! ## The loops' invariants -/

variable [FloatOps F] (x : S6422528.Idx → Elt F .f32) (lab : S16384.Idx → Elt F .i32)

/-- The insertion loop: the fetched rows, and the six kept after the classes so far. -/
def inv2 (c : Vec F S6272 .f32) (k : ℕ) (a : Six F) : sProp 𝕄 :=
  iprop(((sB).view.loc (V d (cV L) (jV L)) ↦{fullShare} c) ∗ ⌜a = st2 c k⌝)

/-- The loop over the groups: the evidence that waits are admissible, the share of the rows, the two scratches, the
    fetch's counter at zero, what is owed, and the accumulator after the groups so far. -/
def inv1 (hl : LabOK (F := F) lab) (q : PosShare TreeShare) (O : CellTallies nD τ sig (HIx 1)) (W : Waits sig (HIx 1)) (k : ℕ) (a : FVec F S16 .f32) : sProp 𝕄 :=
  iprop(Transfers.MayWaits (V d (cV L) (jV L)) (default : HIx 1) O
    ∗ ((xV).view.loc (V d (cV L) (jV L)) ↦{q} x)
    ∗ (∃ f, (sB).view.loc (V d (cV L) (jV L)) ↦{fullShare} f)
    ∗ ((sL).view.loc (V d (cV L) (jV L)) ↦{fullShare} labels (F := F) lab L)
    ∗ semVal (cBcell d (cV L) (jV L)) 0
    ∗ (∃ W', ⌜∀ p ∈ W', p ∈ W ∨ p.2 = none⌝ ∗ owes (V d (cV L) (jV L)) O W')
    ∗ ⌜a = st1 x lab hl L k⌝)

/-- Task `L`'s share of an array that every task reads. -/
abbrev tq (L : grid0.Coords) : PosShare TreeShare := Transfers.shareTok fullShare 32 (wid L)

/-- What the task takes: a share of the rows, a share of the labels, its row of the partial sums. -/
def goP (fo : Buf (Elt F) (oLoc d)) : sProp 𝕄 :=
  iprop((xLoc d ↦{tq L} x) ∗ (lLoc d ↦{tq L} lab) ∗ oLoc d ↦[oSet L]{fullShare} fo)

/-- One trip of the insertion loop inserts the column of its class. -/
theorem st2_succ (c : Vec F S6272 .f32) (k : Fin k0_t2_loop.trips) : st2 c (k.val + 1) = ins (st2 c k.val) (col c k) := by
  rw [st2, dif_pos k.isLt]
/-- One trip of the loop over the groups adds the scores of its sixteen rows. -/
theorem st1_succ (hl : LabOK (F := F) lab) (k : Fin k0_t1_loop.trips) :
    st1 x lab hl L (k.val + 1) = accStep (st1 x lab hl L k.val) (st2 (chunk (F := F) x L k) k0_t2_loop.trips) (pick x lab hl L k) := by
  rw [st1, dif_pos k.isLt]

set_option maxHeartbeats 4000000 in
/-- The task on vector subcore `(L 0, L 1)` of device `d`: from its shares and its row, the row left at `partials`. -/
theorem tile_body (hF : (K (F := F)).Facts) (hl : LabOK (F := F) lab) (fo : Buf (Elt F) (oLoc d))
    (O : CellTallies nD τ sig (HIx 1)) (W : Waits sig (HIx 1)) (hO : ∀ g, O g none = 0) :
    iprop(levAts (K (F := F)).L (K (F := F)).lev ∗ emp
        ∗ goP d L x lab fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__iou_partials L xV (Memref.isWhole_whole _) lV (Memref.isWhole_whole _) oV (Memref.isWhole_whole _)
            sB (Memref.isWhole_whole _) sL (Memref.isWhole_whole _) sA (Memref.isWhole_whole _) cc0_scoped0 cc0_scoped1 cc0_scoped2)
          fun _ => iprop(goP d L x lab (partials x lab hl)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__iou_partials_eq_skeleton]; unfold cc0__iou_partials_skel
  rw [(K (F := F)).scopedBufs_V hF d (cV L) (jV L), SparseCore.Cfg.scopedSems0_V (Val := Elt F) d (cV L) (jV L), ownSems0_V, ownBufs_V]
  unfold goP
  iintro ⟨#Hlv, -, ⟨Hx, Hl, Ho⟩, ⟨⟨%fb, Hb⟩, ⟨%fs, Hs⟩, ⟨%fa, Ha⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Hl' := (Entails.of_eq (pts_lV (F := F) d L _ _).symm) $$ Hl
  ihave Ho' := (Entails.of_eq (pts_oSl (F := F) d L _).symm) $$ Ho
  ihave Hb' := (Entails.of_eq (pts_sB (F := F) d L _).symm) $$ Hb
  ihave Hs' := (Entails.of_eq (pts_sL (F := F) d L _).symm) $$ Hs
  ihave Ha' := (Entails.of_eq (pts_sA (F := F) d L _).symm) $$ Ha
  sl_exec
  sl_for (inv1 d L x lab hl (tq L) O W) $$ [Hmw Hx' Hb' Hs' HsemB HO]
  case region =>
    intro k acc
    unfold inv1
    iintro ⟨Hmw, Hx, ⟨%f, Hb⟩, Hs, HsemB, ⟨%W', %hW', HO⟩, %hacc⟩
    subst hacc
    sl_exec (disch := exact View.amount_pos _ _ (show 0 < S6272.numel by decide))
    ihave Hb' := (Entails.of_eq (lands_sB (F := F) d L f (tile_body.sl.dma0_1 L x k) (chunk (F := F) x L k) rfl)) $$ Hb
    sl_for (inv2 d L (chunk (F := F) x L k)) $$ [Hb']
    case region =>
      intro k2 a
      unfold inv2
      iintro ⟨Hb, %ha⟩
      subst ha
      sl_exec
      rw [wp_assume_of _ _ _ _ (chk1_ok k2)]
      iapply (SparseCore.wp_vectorLoadIdx 𝒱₀ (V d (cV L) (jV L)) none Set.univ (base := sB) (S := Finset.univ) (q := fullShare) (Finset.subset_univ _)) $$ Hb
      iintro Hb
      sl_step
      isplitl [Hb]; · iexact Hb
      ipureintro
      rw [read_sB, st2_succ]; rfl
    · unfold inv2
      isplitl [Hb']; · iexact Hb'
      ipureintro; rfl
    iintro %a HI
    unfold inv2
    icases HI with ⟨Hb, %ha⟩
    subst ha
    sl_exec
    rw [wp_assume_of _ _ _ _ (chk2_ok k)]
    iapply (SparseCore.wp_vectorLoadIdx 𝒱₀ (V d (cV L) (jV L)) none Set.univ (base := sL) (S := Finset.univ) (q := fullShare) (Finset.subset_univ _)) $$ Hs
    iintro Hs
    rw [read_sL]
    sl_exec
    rw [wp_assume_of _ _ _ _ (show k0_chk3 (tile_body.sl.v39 L lab k) from chk3_ok lab hl L k)]
    iapply (SparseCore.wp_vectorLoadIdx 𝒱₀ (V d (cV L) (jV L)) none Set.univ (base := sB) (S := Finset.univ) (q := fullShare) (Finset.subset_univ _)) $$ Hb
    iintro Hb
    rw [read_sB]
    sl_step
    isplitl [Hmw]; · iexact Hmw
    isplitl [Hx]; · iexact Hx
    isplitl [Hb]; · iexists _; iexact Hb
    isplitl [Hs]; · iexact Hs
    isplitl [HsemB]; · iexact HsemB
    isplitl [HO]
    · iexists _; isplitr
      swap; · iexact HO
      ipureintro; intro p hp
      rcases Finset.mem_insert.mp hp with hp | hp; · exact .inr (hp ▸ rfl)
      exact hW' p hp
    ipureintro
    rw [st1_succ]; rfl
  · unfold inv1
    isplitl [Hmw]; · iexact Hmw
    isplitl [Hx']; · iexact Hx'
    isplitl [Hb']; · iexists _; iexact Hb'
    isplitl [Hs']
    · iapply (Entails.of_eq (lands_sL (F := F) d L fs (tile_body.sl.dma0 L lab) (labels (F := F) lab L) rfl))
      iexact Hs'
    isplitl [HsemB]; · iexact HsemB
    isplitl [HO]
    · iexists _; isplitr
      swap; · iexact HO
      ipureintro; intro p hp
      rcases Finset.mem_insert.mp hp with hp | hp; · exact .inr (hp ▸ rfl)
      exact .inl hp
    ipureintro; rfl
  iintro %acc HI
  unfold inv1
  icases HI with ⟨-, Hx, ⟨%f, Hb⟩, Hs, HsemB, ⟨%W', %hW', HO⟩, %hacc⟩
  subst hacc
  sl_exec
  sl_step
  isplitl [Hx Hl' Ho']
  · isplitl [Hx]; · iapply (Entails.of_eq (pts_xV (F := F) d L _ _)); iexact Hx
    isplitl [Hl']; · iapply (Entails.of_eq (pts_lV (F := F) d L _ _)); iexact Hl'
    iapply (Entails.of_eq (pts_out (F := F) d L x lab hl fo (tile_body.sl.dma2 d L x lab hl fa) (read_stored fa _)))
    iexact Ho'
  isplitl [Hb Hs Ha' Hbufs]
  · isplitl [Hb]; · iexists _; iexact Hb
    isplitl [Hs]; · iexists _; iexact Hs
    isplitl [Ha']; · iexists _; iexact Ha'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  exact hW' p hp

end Tile

end Cert.Proof.KI

end
-- ==== Proof.IdealLaunch.lean ====
/-
  The launch in any float instance. `@main` on the TensorCore flattens the probabilities, hands the thirty-two tasks
  their shares of the two operands and their rows of the partial sums (`tasks_eq`), takes them back with the partial
  sums in place, adds them up and divides. The launch theorem then gives the run of all the threads: termination, no
  fault, the two arguments unchanged, the result a closed term of the launch memory, every semaphore counter back at
  zero (`run_main`).

  This module is about the program at the extended reals; Proof/BitsLaunch is the same text for the other one, generic in the float instance like it.
-/
module

public import proofs.«01_k».proof.Proof.IdealBody

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 eq_ix1)

open Idealize.ShloMosaic.ValueIdx (ix2 eq_ix2)

variable {F : FTy → Type}

local notation "𝕄" => MT nD τ sig (HIx 1) (Elt F) ℕ UU ℕ

/-! ## The thirty-two tasks -/

/-- The task numbered `w` has number `w`. -/
theorem wid_Lof (w : Fin 32) : wid (Lof w) = w :=
  Fin.ext (show 2 * (w.val / 2) + w.val % 2 = w.val by omega)

/-- A pair of SparseCore and subcore is a task number. -/
def taskEquiv : Fin 2 × Fin 16 ≃ Fin 32 where
  toFun p := wid (coordsV p.1 p.2)
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := wid_Lof w

/-- One fact per task, grouped by SparseCore and subcore. -/
theorem bigSep_tasks (Φ : grid0.Coords → sProp 𝕄) :
    (bigSep Finset.univ fun c : Fin 2 => bigSep Finset.univ fun i : Fin 16 => Φ (coordsV c i))
      = bigSep Finset.univ fun w : Fin 32 => Φ (Lof w) := by
  rw [bigSep_univ_equiv taskEquiv, bigSep_univ_prod]
  refine bigSep_congr fun c _ => bigSep_congr fun i _ => congrArg Φ ?_
  show _ = Lof (wid (coordsV c i))
  rw [Lof_wid]

/-- A task's part of the partial sums is the row that has its number. -/
theorem mem_oSet (L : grid0.Coords) (i : S32x16.Idx) : i ∈ oSet L ↔ (i 0 : Fin 32) = wid L := by
  constructor
  · intro h
    obtain ⟨j, -, rfl⟩ := Finset.mem_map.mp h
    rw [oSl_emb]
  · intro h
    refine Finset.mem_map.mpr ⟨ix1 (i 1), Finset.mem_univ _, ?_⟩
    rw [oSl_emb, ← h]
    exact (eq_ix2 (n0 := 32) (n1 := 16) i).symm

/-- Two tasks' rows are disjoint. -/
theorem rows_disjoint : ∀ w ∈ (Finset.univ : Finset (Fin 32)), ∀ w' ∈ (Finset.univ : Finset (Fin 32)), w ≠ w' → Disjoint (oSet (Lof w)) (oSet (Lof w')) := by
  intro w _ w' _ h
  refine Finset.disjoint_left.mpr fun i hi hi' => h ?_
  have e := ((mem_oSet _ i).mp hi).symm.trans ((mem_oSet _ i).mp hi')
  rwa [wid_Lof, wid_Lof] at e

/-- The tasks' rows are the whole array of partial sums. -/
theorem rows_cover : (Finset.univ : Finset (Fin 32)).biUnion (fun w => oSet (Lof w)) = Finset.univ := by
  refine Finset.eq_univ_of_forall fun i => Finset.mem_biUnion.mpr ⟨i 0, Finset.mem_univ _, ?_⟩
  exact (mem_oSet _ i).mpr (wid_Lof _).symm

/-- Owning the partial sums is owning the thirty-two rows. -/
theorem oPts_rows (d : Dev nD) (f : Buf (Elt F) (oLoc d)) :
    (oLoc d ↦{fullShare} f : sProp 𝕄) = bigSep Finset.univ fun w : Fin 32 => oLoc d ↦[oSet (Lof w)]{fullShare} f := by
  rw [← pointsTo_biUnion Finset.univ (ℓ := oLoc d) (fun w => oSet (Lof w)) rows_disjoint, rows_cover]

/-- What the tasks hold together: thirty-two shares of each operand, and the array of partial sums whole. -/
theorem tasks_eq (d : Dev nD) (x : S6422528.Idx → Elt F .f32) (lab : S16384.Idx → Elt F .i32) (f : Buf (Elt F) (oLoc d)) :
    (bigSep Finset.univ fun c : Fin 2 => bigSep Finset.univ fun i : Fin 16 => goP d (coordsV c i) x lab f)
      = (iprop((bigSep Finset.univ fun w : Fin 32 => xLoc d ↦{Transfers.shareTok fullShare 32 w} x)
          ∗ (bigSep Finset.univ fun w : Fin 32 => lLoc d ↦{Transfers.shareTok fullShare 32 w} lab)
          ∗ oLoc d ↦{fullShare} f) : sProp 𝕄) := by
  rw [bigSep_tasks (fun L => goP d L x lab f), oPts_rows, ← bigSep_sep', ← bigSep_sep']
  refine bigSep_congr fun w _ => ?_
  unfold goP tq
  rw [wid_Lof]

/-! ## The contents along `@main` -/

variable [FloatOps F] (m : (ℓ : Loc nD τ sig) → Buf (Elt F) ℓ) (ρ : Dev nD → PrngReg)

/-- The probabilities, and the result, as locations of device `d`. -/
abbrev aLoc (d : Dev nD) : Loc nD τ sig := (SparseCore.T d).loc main_arg0
/-- The result, as a location of device `d`. -/
abbrev rLoc (d : Dev nD) : Loc nD τ sig := (SparseCore.T d).loc main_v3

/-- The probabilities in row-major order. -/
def flat (d : Dev nD) : S6422528.Idx → Elt F .f32 := shapeCast S6422528 (m (aLoc d)) shapeCasts_S16384x392_S6422528

/-- What `@main` makes of the partial sums: their total, divided by the number of rows. -/
def total (f : S32x16.Idx → Elt F .f32) : S_.Idx → Elt F .f32 :=
  Host.divf (Host.reduceAdd f (constant (F := F) S_ .f32 0x00000000#32) reducesTo_S32x16_S_d0_1 h_S_) (constant (F := F) S_ .f32 0x46800000#32)

/-- The flattening of the probabilities. -/
abbrev opR : HloOp τ sig (Elt F) := StableHlo.reshape main_arg0 main_v0 (rfl : (.f32 : EltTy) = .f32) shapeCasts_S16384x392_S6422528
/-- The zero from which the total starts. -/
abbrev opZ : HloOp τ sig (Elt F) := StableHlo.nullary main_cst (constant (F := F) S_ .f32 0x00000000#32)
/-- The total of the partial sums. -/
abbrev opS : HloOp τ sig (Elt F) := StableHlo.binary main_v1 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
/-- The number of rows, as a float. -/
abbrev opN : HloOp τ sig (Elt F) := StableHlo.nullary main_cst_0 (constant (F := F) S_ .f32 0x46800000#32)
/-- The division of the total by the number of rows. -/
abbrev opD : HloOp τ sig (Elt F) := StableHlo.binary main_v2 main_cst_0 main_v3 (Host.divf : (⟨S_, .f32⟩ : BufTy).Contents (Elt F) → (⟨S_, .f32⟩ : BufTy).Contents (Elt F) → (⟨S_, .f32⟩ : BufTy).Contents (Elt F))

/-- An array of the TensorCore, as a reference of the device. -/
abbrev rf (b : Ref sig .tc) : DevRef τ sig := Proc.devRef .tc b

/-- The TensorCore's arrays. -/
abbrev S8 : Finset (DevRef τ sig) := {rf main_arg0, rf main_arg1, rf main_v0, rf main_v1, rf main_cst, rf main_v2, rf main_cst_0, rf main_v3}

omit [FloatOps F] in
/-- Holding the TensorCore's arrays is owning each of them. -/
theorem held_S8 (d : Dev nD) (W : Valuation τ sig (Elt F)) :
    (held (T d) S8 W : sProp 𝕄) = iprop((aLoc d ↦{fullShare} W (rf main_arg0)) ∗ (lLoc d ↦{fullShare} W (rf main_arg1)) ∗ (xLoc d ↦{fullShare} W (rf main_v0))
      ∗ (oLoc d ↦{fullShare} W (rf main_v1)) ∗ ((SparseCore.T d).loc main_cst ↦{fullShare} W (rf main_cst)) ∗ ((SparseCore.T d).loc main_v2 ↦{fullShare} W (rf main_v2))
      ∗ ((SparseCore.T d).loc main_cst_0 ↦{fullShare} W (rf main_cst_0)) ∗ rLoc d ↦{fullShare} W (rf main_v3)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The arrays that the TensorCore starts with are these. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (lLoc d ↦{fullShare} W main_arg1) ∗ (xLoc d ↦{fullShare} W main_v0)
      ∗ (oLoc d ↦{fullShare} W main_v1) ∗ ((SparseCore.T d).loc main_cst ↦{fullShare} W main_cst) ∗ ((SparseCore.T d).loc main_v2 ↦{fullShare} W main_v2)
      ∗ ((SparseCore.T d).loc main_cst_0 ↦{fullShare} W main_cst_0) ∗ rLoc d ↦{fullShare} W main_v3) := by
  unfold unscopedBufs
  rw [show (Finset.univ.filter fun b : Ref sig .tc => ¬ b.isScoped) = {main_arg0, main_arg1, main_v0, main_v1, main_cst, main_v2, main_cst_0, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at launch; after the flattening; after the call, which leaves `f` in the array of partial sums; at the end. -/
def V0 (d : Dev nD) : Valuation τ sig (Elt F) := fun b => m (d, b)
/-- The contents after the flattening. -/
def V1 (d : Dev nD) : Valuation τ sig (Elt F) := (opR (F := F)).result (V0 m d)
/-- The contents after the SparseCore's call, which leaves the partial sums `f`. -/
def V2 (d : Dev nD) (f : Buf (Elt F) (oLoc d)) : Valuation τ sig (Elt F) := Function.update (V1 m d) (rf main_v1) f
/-- The contents at the end. -/
def V3 (d : Dev nD) (f : Buf (Elt F) (oLoc d)) : Valuation τ sig (Elt F) :=
  (opD (F := F)).result ((opN (F := F)).result ((opS (F := F)).result ((opZ (F := F)).result (V2 m d f))))

/-- The TensorCore starts with its arrays at the launch contents. -/
theorem unscoped_held (d : Dev nD) : (unscopedBufs d (fun b => m ((SparseCore.T d).loc b)) : sProp 𝕄) = held (T d) S8 (V0 m d) := by
  rw [unscopedBufs_eq, held_S8]; rfl

/-- After the flattening, its result is the probabilities in row-major order. -/
theorem V1_flat (d : Dev nD) : V1 m d (rf main_v0) = flat m d := StableHlo.reshape_result' ..
/-- The flattening changes nothing else. -/
theorem V1_ne (d : Dev nD) {r : Ref sig .tc} (h : r ≠ main_v0) : V1 m d (rf r) = m ((SparseCore.T d).loc r) := StableHlo.reshape_result_ne _ _ _ _ _ _ _ h
/-- After the call, the partial sums are `f`. -/
theorem V2_self (d : Dev nD) (f : Buf (Elt F) (oLoc d)) : V2 m d f (rf main_v1) = f := Function.update_self _ _ _
/-- The call changes nothing else. -/
theorem V2_ne (d : Dev nD) (f : Buf (Elt F) (oLoc d)) {r : DevRef τ sig} (h : r ≠ rf main_v1) : V2 m d f r = V1 m d r := Function.update_of_ne h _ _

/-- At the end the probabilities are those of the launch. -/
theorem V3_arg0 (d : Dev nD) (f : Buf (Elt F) (oLoc d)) : V3 m d f (rf main_arg0) = m (aLoc d) := by
  unfold V3
  rw [StableHlo.binary_result_ne (h := by decide), StableHlo.nullary_result_ne (h := by decide), StableHlo.binary_result_ne (h := by decide), StableHlo.nullary_result_ne (h := by decide),
    V2_ne _ _ _ (by decide), V1_ne _ _ (by decide)]
/-- At the end the labels are those of the launch. -/
theorem V3_arg1 (d : Dev nD) (f : Buf (Elt F) (oLoc d)) : V3 m d f (rf main_arg1) = m (lLoc d) := by
  unfold V3
  rw [StableHlo.binary_result_ne (h := by decide), StableHlo.nullary_result_ne (h := by decide), StableHlo.binary_result_ne (h := by decide), StableHlo.nullary_result_ne (h := by decide),
    V2_ne _ _ _ (by decide), V1_ne _ _ (by decide)]
/-- At the end the result is what `@main` makes of the partial sums. -/
theorem V3_v3 (d : Dev nD) (f : Buf (Elt F) (oLoc d)) : V3 m d f (rf main_v3) = total (F := F) f := by
  unfold V3
  rw [StableHlo.binary_result, StableHlo.nullary_result, StableHlo.nullary_result_ne (h := by decide), StableHlo.binary_result, StableHlo.nullary_result,
    StableHlo.nullary_result_ne (h := by decide), V2_self]
  rfl

/-- The arrays after the flattening, one by one. -/
theorem held_V1 (d : Dev nD) : (held (T d) S8 ((opR (F := F)).result (V0 m d)) : sProp 𝕄)
    = iprop((aLoc d ↦{fullShare} m (aLoc d)) ∗ (lLoc d ↦{fullShare} m (lLoc d)) ∗ (xLoc d ↦{fullShare} flat m d)
      ∗ (oLoc d ↦{fullShare} m (oLoc d)) ∗ ((SparseCore.T d).loc main_cst ↦{fullShare} V1 m d (rf main_cst)) ∗ ((SparseCore.T d).loc main_v2 ↦{fullShare} V1 m d (rf main_v2))
      ∗ ((SparseCore.T d).loc main_cst_0 ↦{fullShare} V1 m d (rf main_cst_0)) ∗ rLoc d ↦{fullShare} V1 m d (rf main_v3)) := by
  show held (T d) S8 (V1 m d) = _
  rw [held_S8, V1_flat, V1_ne _ _ (show main_arg0 ≠ main_v0 by decide), V1_ne _ _ (show main_arg1 ≠ main_v0 by decide), V1_ne _ _ (show main_v1 ≠ main_v0 by decide)]

/-- The arrays after the call, one by one. -/
theorem held_V2 (d : Dev nD) (f : Buf (Elt F) (oLoc d)) : (held (T d) S8 (V2 m d f) : sProp 𝕄)
    = iprop((aLoc d ↦{fullShare} m (aLoc d)) ∗ (lLoc d ↦{fullShare} m (lLoc d)) ∗ (xLoc d ↦{fullShare} flat m d)
      ∗ (oLoc d ↦{fullShare} f) ∗ ((SparseCore.T d).loc main_cst ↦{fullShare} V1 m d (rf main_cst)) ∗ ((SparseCore.T d).loc main_v2 ↦{fullShare} V1 m d (rf main_v2))
      ∗ ((SparseCore.T d).loc main_cst_0 ↦{fullShare} V1 m d (rf main_cst_0)) ∗ rLoc d ↦{fullShare} V1 m d (rf main_v3)) := by
  rw [held_S8, V2_self, V2_ne _ _ _ (show rf main_arg0 ≠ rf main_v1 by decide), V2_ne _ _ _ (show rf main_arg1 ≠ rf main_v1 by decide),
    V2_ne _ _ _ (show rf main_v0 ≠ rf main_v1 by decide), V2_ne _ _ _ (show rf main_cst ≠ rf main_v1 by decide), V2_ne _ _ _ (show rf main_v2 ≠ rf main_v1 by decide),
    V2_ne _ _ _ (show rf main_cst_0 ≠ rf main_v1 by decide), V2_ne _ _ _ (show rf main_v3 ≠ rf main_v1 by decide),
    V1_flat, V1_ne _ _ (show main_arg0 ≠ main_v0 by decide), V1_ne _ _ (show main_arg1 ≠ main_v0 by decide)]

/-- The arrays at the end: the arguments and the result, and the rest. -/
theorem held_V3 (d : Dev nD) (f : Buf (Elt F) (oLoc d)) :
    (held (T d) S8 ((opD (F := F)).result ((opN (F := F)).result ((opS (F := F)).result ((opZ (F := F)).result (V2 m d f))))) : sProp 𝕄)
    = iprop((aLoc d ↦{fullShare} m (aLoc d)) ∗ (lLoc d ↦{fullShare} m (lLoc d)) ∗ (xLoc d ↦{fullShare} V3 m d f (rf main_v0))
      ∗ (oLoc d ↦{fullShare} V3 m d f (rf main_v1)) ∗ ((SparseCore.T d).loc main_cst ↦{fullShare} V3 m d f (rf main_cst)) ∗ ((SparseCore.T d).loc main_v2 ↦{fullShare} V3 m d f (rf main_v2))
      ∗ ((SparseCore.T d).loc main_cst_0 ↦{fullShare} V3 m d f (rf main_cst_0)) ∗ rLoc d ↦{fullShare} total (F := F) f) := by
  show held (T d) S8 (V3 m d f) = _
  rw [held_S8, V3_arg0, V3_arg1, V3_v3]

/-! ## The call's payloads and the tasks' obligation -/

/-- What the proof asks of the launch memory: every label is below 392. -/
def PreOK : Prop := ∀ d : Dev nD, LabOK (F := F) (m (lLoc d))

/-- The partial sums the call leaves. -/
def sums (hl : PreOK m) (d : Dev nD) : S32x16.Idx → Elt F .f32 := partials (flat m d) (m (lLoc d)) (hl d)

/-- The coordinates of a task. -/
abbrev taskL (c : Fin ((K (F := F)).nCore 0)) (i : Fin ((K (F := F)).nSub 0)) : grid0.Coords := coordsV ⟨c.val, c.isLt⟩ ⟨i.val, i.isLt⟩

/-- Each task is handed its shares and its row, and hands them back with the partial sums in the row; a SparseCore's
    operands are its tasks'. -/
def P (hl : PreOK m) : (K (F := F)).Pay (nD := nD) (Val := Elt F) (Name := ℕ) (U := UU) where
  st := fun q d c => match q with
    | 0 => bigSep Finset.univ fun i : Fin ((K (F := F)).nSub 0) => goP d (taskL c i) (flat m d) (m (lLoc d)) (m (oLoc d))
  dn := fun q d c => match q with
    | 0 => bigSep Finset.univ fun i : Fin ((K (F := F)).nSub 0) => goP d (taskL c i) (flat m d) (m (lLoc d)) (sums m hl d)
  go := fun q d c i => match q with
    | 0 => goP d (taskL c i) (flat m d) (m (lLoc d)) (m (oLoc d))
  td := fun q d c i => match q with
    | 0 => goP d (taskL c i) (flat m d) (m (lLoc d)) (sums m hl d)
  x := fun _ _ => iprop(emp)

/-- What a task holds can be handed over at a handshake. -/
instance goP_storable (d : Dev nD) (L : grid0.Coords) (x : S6422528.Idx → Elt F .f32) (lab : S16384.Idx → Elt F .i32) (f : Buf (Elt F) (oLoc d)) :
    BI.Storable (upEmb : UEmb _ 𝕄) (goP d L x lab f) := by unfold goP; infer_instance

/-- Everything that the handshakes carry can be handed over. -/
instance P_storable (hl : PreOK m) : (P (F := F) m hl).IsStorable where
  st q d c := match q with
    | 0 => (inferInstance : BI.Storable (upEmb : UEmb _ 𝕄) (bigSep Finset.univ fun i : Fin ((K (F := F)).nSub 0) => goP d (taskL c i) (flat m d) (m (lLoc d)) (m (oLoc d))))
  dn q d c := match q with
    | 0 => (inferInstance : BI.Storable (upEmb : UEmb _ 𝕄) (bigSep Finset.univ fun i : Fin ((K (F := F)).nSub 0) => goP d (taskL c i) (flat m d) (m (lLoc d)) (sums m hl d)))
  go q d c i := match q with
    | 0 => (inferInstance : BI.Storable (upEmb : UEmb _ 𝕄) (goP d (taskL c i) (flat m d) (m (lLoc d)) (m (oLoc d))))
  td q d c i := match q with
    | 0 => (inferInstance : BI.Storable (upEmb : UEmb _ 𝕄) (goP d (taskL c i) (flat m d) (m (lLoc d)) (sums m hl d)))

/-- The body of a vector subcore is the kernel at its coordinates, on the three arrays and its own scratches. -/
theorem defs₀_vector (c : Fin τ.nSC) (s : Fin τ.nSub) :
    defs₀ (F := F) (.scVector c s) 0 ()
      = SparseCore.onTile hcore0 hsub0 (fun c s => cc0__iou_partials (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          cc0_scoped0 cc0_scoped1 cc0_scoped2) ⟨⟩ c s := rfl

omit [FloatOps F] in
/-- A bound on the waits that leaves out the call also holds with it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation. -/
theorem tileObl (hF : (K (F := F)).Facts) (hl : PreOK m) : (K (F := F)).TileObl (D (F := F)) 𝒱 (P m hl) v₀ 0 := by
  intro d c i O W hO _ _
  simp only [show (P m hl).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (flat m d) (m (lLoc d)) hF (hl d) (m (oLoc d)) O W hO).trans (wp_mono frame _ _ fun _ => obl_post)

/-- A SparseCore's operands are its tasks', and its results theirs. -/
theorem vecSplit (hl : PreOK m) : (K (F := F)).VecSplit' (P m hl) 0 := by
  intro d c
  show (bigSep Finset.univ fun i : Fin ((K (F := F)).nSub 0) => goP d (taskL c i) (flat m d) (m (lLoc d)) (m (oLoc d))) ⊢ |={Set.univ}=> iprop(
      (bigSep Finset.univ fun i : Fin ((K (F := F)).nSub 0) => goP d (taskL c i) (flat m d) (m (lLoc d)) (m (oLoc d)))
      ∗ ((bigSep Finset.univ fun i : Fin ((K (F := F)).nSub 0) => goP d (taskL c i) (flat m d) (m (lLoc d)) (sums m hl d))
          -∗ (bigSep Finset.univ fun i : Fin ((K (F := F)).nSub 0) => goP d (taskL c i) (flat m d) (m (lLoc d)) (sums m hl d))))
  iintro H; imodintro
  isplitl [H]; · iexact H
  iintro H; iexact H

/-! ## The launch element of the ghost state -/

/-- The ghost state at the launch. -/
def u₀ : UU := (initOf (K (F := F)).hsCells (K (F := F)).hsToks, 1)

omit [FloatOps F] in
/-- Many times nothing is nothing. -/
theorem bigSep_emp' {I : Type} (s : Finset I) : (bigSep s fun _ => iprop(emp)) = (iprop(emp) : sProp 𝕄) := bigSep_emp_const s

/-- The ghost state at the launch gives the handshakes theirs; the tasks need no more. -/
theorem hu₀ (hl : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hl).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hl).x q thr) = bigSep Finset.univ fun _ => iprop(emp) from
    bigSep_congr fun _ _ => bigSep_univ_of_subsingleton (0 : Fin 1), bigSep_emp']
  iempintro

/-! ## `@main` on the TensorCore -/

/-- What the call takes: the operands' shares, and the partial sums as they are at the launch. -/
theorem st0_eq (hl : PreOK m) (d : Dev nD) : (bigSep Finset.univ fun c : Fin ((K (F := F)).nCore 0) => (P m hl).st 0 d c)
    = (iprop((bigSep Finset.univ fun w : Fin 32 => xLoc d ↦{Transfers.shareTok fullShare 32 w} flat m d)
        ∗ (bigSep Finset.univ fun w : Fin 32 => lLoc d ↦{Transfers.shareTok fullShare 32 w} m (lLoc d))
        ∗ oLoc d ↦{fullShare} m (oLoc d)) : sProp 𝕄) :=
  tasks_eq d (flat m d) (m (lLoc d)) (m (oLoc d))
/-- What the call gives back: the operands' shares, and the partial sums in place. -/
theorem dn0_eq (hl : PreOK m) (d : Dev nD) : (bigSep Finset.univ fun c : Fin ((K (F := F)).nCore 0) => (P m hl).dn 0 d c)
    = (iprop((bigSep Finset.univ fun w : Fin 32 => xLoc d ↦{Transfers.shareTok fullShare 32 w} flat m d)
        ∗ (bigSep Finset.univ fun w : Fin 32 => lLoc d ↦{Transfers.shareTok fullShare 32 w} m (lLoc d))
        ∗ oLoc d ↦{fullShare} sums m hl d) : sProp 𝕄) :=
  tasks_eq d (flat m d) (m (lLoc d)) (sums m hl d)

/-- The flattening touches only the TensorCore's arrays. -/
theorem hR : (opR (F := F)).bufs ⊆ S8 := show ({rf main_arg0, rf main_v0} : Finset (DevRef τ sig)) ⊆ S8 by decide
/-- The zero touches only them. -/
theorem hZ : (opZ (F := F)).bufs ⊆ S8 := show ({rf main_cst} : Finset (DevRef τ sig)) ⊆ S8 by decide
/-- The total touches only them. -/
theorem hS : (opS (F := F)).bufs ⊆ S8 := show ({rf main_v1, rf main_cst, rf main_v2} : Finset (DevRef τ sig)) ⊆ S8 by decide
/-- The number of rows touches only them. -/
theorem hN : (opN (F := F)).bufs ⊆ S8 := show ({rf main_cst_0} : Finset (DevRef τ sig)) ⊆ S8 by decide
/-- The division touches only them. -/
theorem hD : (opD (F := F)).bufs ⊆ S8 := show ({rf main_v2, rf main_cst_0, rf main_v3} : Finset (DevRef τ sig)) ⊆ S8 by decide

/-- What `@main` leaves the claim: the two arguments at their launch contents, and the result. -/
abbrev FIN (hl : PreOK m) (d : Dev nD) : sProp 𝕄 :=
  iprop((aLoc d ↦{fullShare} m (aLoc d)) ∗ (lLoc d ↦{fullShare} m (lLoc d)) ∗ rLoc d ↦{fullShare} total (F := F) (sums m hl d))

/-- `@main` on device `d`'s TensorCore: the flattening, the call, the total and the division. -/
theorem hmain (hl : PreOK m) (κ : GSem nD τ sig → ℕ) (d : Dev nD) :
    iprop((K (F := F)).ctx EH (P m hl) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hl d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S8) hR (V := V0 m d)) $$ [Hb Hheld]
  · isplitl [Hb]; · iexact Hb
    iexact Hheld
  iintro ⟨Hb, Hheld⟩
  rw [wp_ret]; imodintro
  ihave Hh := (Entails.of_eq (held_V1 (F := F) m d)) $$ Hheld
  icases Hh with ⟨Ha, Hl, Hx, Ho, H5, H6, H7, H8⟩
  ihave Hx2 := (Transfers.pointsTo_toks fullShare 32).1 $$ Hx
  icases Hx2 with ⟨Hxd, Hxt⟩
  ihave Hl2 := (Transfers.pointsTo_toks fullShare 32).1 $$ Hl
  icases Hl2 with ⟨Hld, Hlt⟩
  iapply ((K (F := F)).wp_run (D (F := F)) 𝒱 (EH := EH) (P := P m hl) κ d 0) $$ [Hst Hxt Hlt Ho Hb Hxd Hld Ha H5 H6 H7 H8 Hts]
  isplitr; · iexact Hctx
  isplitl [Hst]; · iexact Hst
  isplitl [Hxt Hlt Ho]
  · rw [st0_eq]
    isplitl [Hxt]; · iexact Hxt
    isplitl [Hlt]; · iexact Hlt
    iexact Ho
  iintro ⟨Hst, Hdn⟩
  ihave Hdn' := (Entails.of_eq (dn0_eq m hl d)) $$ Hdn
  icases Hdn' with ⟨Hxt, Hlt, Ho⟩
  ihave Hx := (Transfers.pointsTo_toks fullShare 32).2 $$ [Hxd Hxt]
  · isplitl [Hxd] <;> iassumption
  ihave Hl := (Transfers.pointsTo_toks fullShare 32).2 $$ [Hld Hlt]
  · isplitl [Hld] <;> iassumption
  iapply (wp_hlo_within 𝒱 (SparseCore.T d) none Set.univ (op := opZ) (S := S8) hZ (V := V2 m d (sums m hl d))) $$ [Hb Ha Hl Hx Ho H5 H6 H7 H8]
  · isplitl [Hb]; · iexact Hb
    rw [held_V2]
    isplitl [Ha]; · iexact Ha
    isplitl [Hl]; · iexact Hl
    isplitl [Hx]; · iexact Hx
    isplitl [Ho]; · iexact Ho
    isplitl [H5]; · iexact H5
    isplitl [H6]; · iexact H6
    isplitl [H7]; · iexact H7
    iexact H8
  iintro ⟨Hb, Hheld⟩
  rw [wp_ret]; imodintro
  iapply (wp_hlo_within 𝒱 (SparseCore.T d) none Set.univ (op := opS) (S := S8) hS (V := (opZ (F := F)).result (V2 m d (sums m hl d)))) $$ [Hb Hheld]
  · isplitl [Hb]; · iexact Hb
    iexact Hheld
  iintro ⟨Hb, Hheld⟩
  rw [wp_ret]; imodintro
  iapply (wp_hlo_within 𝒱 (SparseCore.T d) none Set.univ (op := opN) (S := S8) hN (V := (opS (F := F)).result ((opZ (F := F)).result (V2 m d (sums m hl d))))) $$ [Hb Hheld]
  · isplitl [Hb]; · iexact Hb
    iexact Hheld
  iintro ⟨Hb, Hheld⟩
  rw [wp_ret]; imodintro
  iapply (wp_hlo_within 𝒱 (SparseCore.T d) none Set.univ (op := opD) (S := S8) hD
    (V := (opN (F := F)).result ((opS (F := F)).result ((opZ (F := F)).result (V2 m d (sums m hl d)))))) $$ [Hb Hheld]
  · isplitl [Hb]; · iexact Hb
    iexact Hheld
  iintro ⟨Hb, Hheld⟩
  ihave Hh := (Entails.of_eq (held_V3 (F := F) m d (sums m hl d))) $$ Hheld
  icases Hh with ⟨Ha, Hl, -, -, -, -, -, Hr⟩
  rw [wp_ret]; imodintro; imodintro
  isplitl [Hst]; · iexact Hst
  isplitr [Hb Hts]
  · isplitl [Ha]; · iexact Ha
    isplitl [Hl]; · iexact Hl
    iexact Hr
  isplitl [Hb] <;> iassumption

/-- What a final state says of device `d`. -/
def fq (hl : PreOK m) (d : Dev nD) (s' : Phys nD τ sig (Elt F)) : Prop :=
  s'.mem.mem (rLoc d) = total (F := F) (sums m hl d) ∧ s'.mem.mem (aLoc d) = m (aLoc d) ∧ s'.mem.mem (lLoc d) = m (lLoc d)

set_option maxRecDepth 16384 in
/-- A final state in which the claim's ownership stands has the result and the arguments that it names. -/
theorem hfin (hl : PreOK m) (d : Dev nD) (s' : Phys nD τ sig (Elt F)) : iprop(FIN m hl d ∗ SI s') ⊢ (⌜fq m hl d s'⌝ : sProp 𝕄) := by
  iintro ⟨⟨Ha, Hl, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := rLoc d) (I := Finset.univ) (q := fullShare) (f := total (F := F) (sums m hl d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- What the run ends in: on every device the result at the total of the partial sums over the number of rows, the two
    arguments unchanged; every semaphore counter at zero. -/
def QC (hl : PreOK m) : PUnit × MemSt nD τ sig (Elt F) → Prop := fun r =>
  (∀ c : Dev nD, r.2.mem (rLoc c) = total (F := F) (sums m hl c) ∧ r.2.mem (aLoc c) = m (aLoc c) ∧ r.2.mem (lLoc c) = m (lLoc c)) ∧ r.2.sem = fun _ => 0

/-- Every weakly fair execution of the program's threads terminates in `QC`, from a memory whose labels are in range. -/
theorem run_main [∀ e, Nonempty (Elt F e)] (hl : PreOK m) :
    θ_run (Cert.KernelIdeal.defs (F := F)) (Cert.KernelIdeal.threads (F := F)) ⟨m, fun _ => 0, ρ⟩ (QC m hl) :=
  SparseCore.Cfg.θ_run_sc_quiescent (K := K (F := F)) (D := D (F := F)) (𝒱 := 𝒱) (EH := EH) (P := P m hl) (A := ∅) scFacts v₀
    (fun q hq => match q with | 0 => nomatch hq)
    (fun q _ => match q with | 0 => tileObl m scFacts hl)
    (fun q _ => match q with | 0 => SparseCore.Cfg.VecSplit.of_plain (vecSplit m hl))
    m ρ main (fun _ => iprop(emp)) (FIN m hl) (u₀ (F := F)) (sep_elim_left.trans (hu₀ m hl)) (hmain m ρ hl) (fq m hl) (hfin m hl) (QC m hl) (fun _ h hz => ⟨h, hz⟩)

end Cert.Proof.KI

end
-- ==== Proof.Top6.lean ====
module

public import Mathlib.Order.Lattice
public import Mathlib.Data.Fintype.Card
public import Mathlib.Algebra.BigOperators.Group.Finset.Basic
public import Mathlib.Tactic.SplitIfs
public import Mathlib.Order.Fin.Basic
public import Mathlib.Data.Fintype.Fin

/-! # The sixth largest of a row

Order theory only, over any linear order. Two ways of reaching the sixth largest entry of a row — keeping the six
largest entries seen so far, and sorting the whole row — give the same value, because each one is characterised by
how many entries of the row lie above a bound. -/

@[expose] public section

namespace Cert.Proof.Top6

variable {α : Type} [LinearOrder α] {N : ℕ}

/-- How many entries of the row `p` lie strictly above `y`. -/
def cnt (p : Fin N → α) (y : α) : ℕ := (Finset.univ.filter fun j => y < p j).card

/-- How many of the first `n` entries of the row `p` lie strictly above `y`. -/
def cntTo (p : Fin N → α) (n : ℕ) (y : α) : ℕ := (Finset.univ.filter fun j : Fin N => j.val < n ∧ y < p j).card

/-- No entry precedes the first one. -/
theorem cntTo_zero (p : Fin N → α) (y : α) : cntTo p 0 y = 0 := by simp [cntTo]

/-- The first `N` entries are the whole row. -/
theorem cntTo_all (p : Fin N → α) (y : α) : cntTo p N y = cnt p y := by simp [cntTo, cnt]

/-- One more entry counts one more if it lies above the bound. -/
theorem cntTo_succ (p : Fin N → α) (n : Fin N) (y : α) :
    cntTo p (n.val + 1) y = cntTo p n.val y + if y < p n then 1 else 0 := by
  unfold cntTo
  by_cases h : y < p n
  · rw [if_pos h, ← Finset.card_insert_of_notMem (a := n) (by simp)]
    congr 1
    ext j
    simp only [Finset.mem_filter, Finset.mem_univ, true_and, Finset.mem_insert, Nat.lt_succ_iff_lt_or_eq]
    constructor
    · rintro ⟨h1 | h1, h2⟩
      · exact Or.inr ⟨h1, h2⟩
      · exact Or.inl (Fin.ext h1)
    · rintro (rfl | ⟨h1, h2⟩)
      · exact ⟨Or.inr rfl, h⟩
      · exact ⟨Or.inl h1, h2⟩
  · rw [if_neg h]
    refine Eq.trans (congrArg Finset.card (Finset.ext fun j => ?_)) (Nat.add_zero _).symm
    simp only [Finset.mem_filter, Finset.mem_univ, true_and, Nat.lt_succ_iff_lt_or_eq]
    constructor
    · rintro ⟨h1 | h1, h2⟩
      · exact ⟨h1, h2⟩
      · exact absurd (Fin.ext h1 ▸ h2) h
    · exact fun ⟨h1, h2⟩ => ⟨Or.inl h1, h2⟩

/-- `a0 ≥ … ≥ a5` are the six largest of the first `n` entries: the `k`-th lies above a bound exactly when more than
    `k` of these entries do. -/
structure Kept (p : Fin N → α) (n : ℕ) (a0 a1 a2 a3 a4 a5 : α) : Prop where
  h0 : ∀ y, y < a0 ↔ 0 < cntTo p n y
  h1 : ∀ y, y < a1 ↔ 1 < cntTo p n y
  h2 : ∀ y, y < a2 ↔ 2 < cntTo p n y
  h3 : ∀ y, y < a3 ↔ 3 < cntTo p n y
  h4 : ∀ y, y < a4 ↔ 4 < cntTo p n y
  h5 : ∀ y, y < a5 ↔ 5 < cntTo p n y

/-- Before any entry, six copies of the least element are kept. -/
theorem kept_zero [OrderBot α] (p : Fin N → α) : Kept p 0 ⊥ ⊥ ⊥ ⊥ ⊥ ⊥ := by
  constructor <;> intro y <;> simp [cntTo_zero]

/-- Inserting the next entry into the six kept — each slot takes the larger of itself and what is handed down, and
    hands the smaller on — keeps the six largest. -/
theorem kept_succ {p : Fin N → α} {n : Fin N} {a0 a1 a2 a3 a4 a5 : α} (h : Kept p n.val a0 a1 a2 a3 a4 a5)
    {c1 c2 c3 c4 c5 : α} (e1 : c1 = min a0 (p n)) (e2 : c2 = min a1 c1) (e3 : c3 = min a2 c2) (e4 : c4 = min a3 c3)
    (e5 : c5 = min a4 c4) :
    Kept p (n.val + 1) (max a0 (p n)) (max a1 c1) (max a2 c2) (max a3 c3) (max a4 c4) (max a5 c5) := by
  subst e1 e2 e3 e4 e5
  constructor <;> intro y <;> rw [cntTo_succ] <;>
    simp only [lt_max_iff, lt_min_iff, h.h0, h.h1, h.h2, h.h3, h.h4, h.h5] <;>
    split_ifs with hv <;> simp only [hv, and_true, and_false, or_false, or_true, true_iff, iff_true] <;> omega

/-- `t` is the sixth largest entry of the row: it lies above a bound exactly when more than five entries do. -/
def IsSixth (p : Fin N → α) (t : α) : Prop := ∀ y, y < t ↔ 5 < cnt p y

/-- There is only one sixth largest entry. -/
theorem IsSixth.unique {p : Fin N → α} {t u : α} (ht : IsSixth p t) (hu : IsSixth p u) : t = u :=
  eq_of_forall_lt_iff fun y => (ht y).trans (hu y).symm

/-- The last of the six kept after the whole row is the sixth largest. -/
theorem Kept.isSixth {p : Fin N → α} {a0 a1 a2 a3 a4 a5 : α} (h : Kept p N a0 a1 a2 a3 a4 a5) : IsSixth p a5 :=
  fun y => by rw [h.h5, cntTo_all]

/-- Of the six kept after the whole row, as many lie above the last one as entries of the row do. -/
theorem Kept.count {p : Fin N → α} {a0 a1 a2 a3 a4 a5 : α} (h : Kept p N a0 a1 a2 a3 a4 a5) :
    ((((if a5 < a0 then 1 else 0) + if a5 < a1 then 1 else 0) + if a5 < a2 then 1 else 0)
      + if a5 < a3 then 1 else 0) + (if a5 < a4 then 1 else 0) = cnt p a5 := by
  have h5 := (h.h5 a5).not.mp (lt_irrefl _)
  simp only [h.h0, h.h1, h.h2, h.h3, h.h4, cntTo_all] at h5 ⊢
  split_ifs <;> omega

/-- An ascending row `s` that rearranges `q` has its entry number 5 below a bound exactly when more than five entries
    of `q` are. -/
theorem sorted_sixth (s q : Fin N → α) (hs : Monotone s) (σ : Fin N → Fin N) (hσ : Function.Bijective σ)
    (e : ∀ j, s j = q (σ j)) (k : Fin N) (hk : k.val = 5) (z : α) :
    s k < z ↔ 5 < (Finset.univ.filter fun j => q j < z).card := by
  have hc : (Finset.univ.filter fun j => q j < z).card = (Finset.univ.filter fun j => s j < z).card := by
    symm
    refine Finset.card_bij (fun j _ => σ j) ?_ (fun _ _ _ _ h => hσ.1 h) ?_
    · intro j hj
      simpa [e] using hj
    · intro j hj
      obtain ⟨i, rfl⟩ := hσ.2 j
      exact ⟨i, by simpa [e] using hj, rfl⟩
  rw [hc]
  constructor
  · intro h
    have hsub : Finset.Iic k ⊆ Finset.univ.filter fun j => s j < z := by
      intro j hj
      simp only [Finset.mem_filter, Finset.mem_univ, true_and]
      exact lt_of_le_of_lt (hs (Finset.mem_Iic.mp hj)) h
    have := Finset.card_le_card hsub
    rw [Fin.card_Iic] at this
    omega
  · intro h
    by_contra hz
    have hsub : (Finset.univ.filter fun j => s j < z) ⊆ Finset.Iio k := by
      intro j hj
      simp only [Finset.mem_filter, Finset.mem_univ, true_and] at hj
      rw [Finset.mem_Iio]
      by_contra hjk
      exact hz (lt_of_le_of_lt (hs (not_lt.mp hjk)) hj)
    have := Finset.card_le_card hsub
    rw [Fin.card_Iio] at this
    omega

end Cert.Proof.Top6
-- ==== Proof.Score.lean ====
module

public import proofs.«01_k».proof.Proof.Top6
public import Idealize.ShloMosaic.PureOps.Ideal
public import Idealize.ShloMosaic.PureOps.Ideal.Laws
public import Idealize.ShloMosaic.Lib.ValueIdxRank1

/-! # The score of one row

What both programs compute for one row of probabilities with its label, at extended reals: the label is "in" when its
entry lies above the row's sixth largest entry, and the score is that bit over the number of entries above the sixth
largest, plus one, minus that bit. -/

@[expose] public section

noncomputable section

namespace Cert.Proof

open Idealize.ShloMosaic Cert.Proof.Top6
open Idealize.ShloMosaic.ValueIdx (ix1 ix2)

/-- Row `r` of the probabilities. -/
def row (X : (⟨2, ![16384, 392]⟩ : Shape).Idx → EReal) (r : Fin 16384) : Fin 392 → EReal := fun j => X (ix2 r j)

/-- The label of row `r`, as a class. -/
def lbl (lab : (⟨1, ![16384]⟩ : Shape).Idx → BitVec 32) (hl : ∀ j, (lab j).toNat < 392) (r : Fin 16384) : Fin 392 :=
  ⟨(lab (ix1 r)).toNat, hl _⟩

/-- One if the row's entry at the label lies above `t`, else zero. -/
def hit (p : Fin 392 → EReal) (l : Fin 392) (t : EReal) : EReal := if t < p l then 1 else 0

/-- The score of the row `p` with label `l` against the threshold `t`. -/
def score (p : Fin 392 → EReal) (l : Fin 392) (t : EReal) : EReal :=
  Ideal.div (hit p l t) (((cnt p t : ℕ) : EReal) + 1 - hit p l t)

end Cert.Proof

end
-- ==== Proof.TileValue.lean ====
/-
  What one vector subcore leaves in a lane of its row of the partial sums, at extended reals: the sum, over its
  thirty-two groups, of the score of the lane's row of the group (`tileOut_apply`).
-/
module

public import proofs.«01_k».proof.Proof.IdealTile
public import proofs.«01_k».proof.Proof.Score
public import Idealize.ShloMosaic.Lib.ValueIdx
public import Idealize.ShloMosaic.Lib.IdealHost
public import Idealize.ShloMosaic.Lib.Pipeline.Value

@[expose] public section

noncomputable section

namespace Cert.Proof.KI

open Cert.KernelIdeal Cert.KernelIdeal.Gen Cert.Proof.Top6
open Idealize.ShloMosaic
open Idealize.ShloMosaic.ValueIdx (ix1 ix2 eq_ix1)

/-- The row lane `y` of group `t` of the task at `L` works on. -/
def rowOf (L : grid0.Coords) (t : Fin k0_t1_loop.trips) (y : Fin 16) : Fin 16384 :=
  ⟨1024 * (L 1).val + 512 * (L 0).val + 16 * t.val + y.val, by
    have h0 : (L 0).val < 2 := (L 0).isLt
    have h1 : (L 1).val < 16 := (L 1).isLt
    have ht : t.val < 32 := Nat.lt_of_lt_of_eq t.isLt trips1
    omega⟩

/-- The flattened probabilities, word by word. -/
theorem flat_apply {α : Type} (X : S16384x392.Idx → α) (r : Fin 16384) (j : Fin 392) (n : Fin 6422528) (hn : n.val = 392 * r.val + j.val) :
    shapeCast S6422528 X shapeCasts_S16384x392_S6422528 (ix1 n) = X (ix2 r j) :=
  shapeCast_apply X _ _ _ (by
    rw [Shape.rowMajor_val_two, Shape.rowMajor_val_one]
    show r.val * 392 + j.val = n.val
    omega)

section

variable (X : S16384x392.Idx → EReal) (lab : S16384.Idx → BitVec 32) (hl : ∀ j, (lab j).toNat < 392)

/-- The flattened probabilities. -/
abbrev xf : S6422528.Idx → Elt Ideal .f32 := shapeCast S6422528 X shapeCasts_S16384x392_S6422528

/-- Class `j` of the lane's row, in the sixteen rows a group fetches. -/
theorem chunk_row (L : grid0.Coords) (t : Fin k0_t1_loop.trips) (y : Fin 16) (j : Fin 392) (i : Fin 6272)
    (hi : i.val = 392 * y.val + j.val) : chunk (F := Ideal) (xf X) L t (ix1 i) = row X (rowOf L t y) j := by
  have hr := (rowOf L t y).isLt
  rw [chunk_apply (F := Ideal) (xf X) L t i ⟨392 * (rowOf L t y).val + j.val, by omega⟩ (by simp only [rowOf]; omega)]
  exact flat_apply X (rowOf L t y) j _ rfl

/-- What the insertion loop reads in lane `y` at class `k`. -/
theorem col_apply (L : grid0.Coords) (t : Fin k0_t1_loop.trips) (k : Fin k0_t2_loop.trips) (y : Fin 16) :
    col (F := Ideal) (chunk (F := Ideal) (xf X) L t) k (ix1 y) = row X (rowOf L t y) ⟨k.val, Nat.lt_of_lt_of_eq k.isLt trips2⟩ := by
  have hk : k.val < 392 := Nat.lt_of_lt_of_eq k.isLt trips2
  have e : idxAt ![k0_pay4 k] (k0_idx1_inb _ (chk1_ok k)) (ix1 y) = ix1 (⟨392 * y.val + k.val, by omega⟩ : Fin 6272) := by
    refine funext fun (a : Fin 1) => Fin.ext ?_
    match a with
    | ⟨0, _⟩ => exact pay4_toNat k (ix1 y)
  show chunk (F := Ideal) (xf X) L t (idxAt ![k0_pay4 k] (k0_idx1_inb _ (chk1_ok k)) (ix1 y)) = _
  rw [e]
  exact chunk_row X L t y _ _ rfl

/-- The label lane `y` reads in group `t`. -/
theorem lab16_apply (L : grid0.Coords) (t : Fin k0_t1_loop.trips) (y : Fin 16) :
    lab16 (F := Ideal) lab L t (ix1 y) = lab (ix1 (rowOf L t y)) := by
  have ht : t.val < 32 := Nat.lt_of_lt_of_eq t.isLt trips1
  have e : idxAt ![k0_pay15 t] (k0_idx2_inb _ (chk2_ok t)) (ix1 y) = ix1 (⟨16 * t.val + y.val, by omega⟩ : Fin 512) := by
    refine funext fun (a : Fin 1) => Fin.ext ?_
    match a with
    | ⟨0, _⟩ => exact pay15_toNat t (ix1 y)
  show labels (F := Ideal) lab L (idxAt ![k0_pay15 t] (k0_idx2_inb _ (chk2_ok t)) (ix1 y)) = _
  rw [e]
  exact labels_apply (F := Ideal) lab L _ (rowOf L t y) (by simp only [rowOf]; omega)

/-- The entry lane `y` reads at its label. -/
theorem pick_apply (L : grid0.Coords) (t : Fin k0_t1_loop.trips) (y : Fin 16) :
    pick (F := Ideal) (xf X) lab hl L t (ix1 y) = row X (rowOf L t y) (lbl lab hl (rowOf L t y)) := by
  have hb := hl (ix1 (rowOf L t y))
  have e : idxAt ![addi k0_pay1 (lab16 (F := Ideal) lab L t)] (k0_idx3_inb _ (chk3_ok (F := Ideal) lab hl L t)) (ix1 y)
      = ix1 (⟨392 * y.val + (lab (ix1 (rowOf L t y))).toNat, by omega⟩ : Fin 6272) := by
    refine funext fun (a : Fin 1) => Fin.ext ?_
    match a with
    | ⟨0, _⟩ =>
      show (k0_pay1 (ix1 y) + (show BitVec 32 from lab16 (F := Ideal) lab L t (ix1 y))).toNat = _
      rw [lab16_apply]
      exact add_toNat (pay1_toNat (ix1 y)) y.isLt hb
  show chunk (F := Ideal) (xf X) L t (idxAt _ _ (ix1 y)) = _
  rw [e]
  exact chunk_row X L t y _ _ rfl

end

/-- The six values the insertion loop starts from are the least extended real. -/
theorem pay2_apply (i : S16.Idx) : (k0_pay2 (F := Ideal) i : EReal) = ⊥ := by
  show Ideal.ofBits .f32 0xFF800000#32 = ⊥
  simp [Ideal.ofBits, Ideal.ieee]

/-- The accumulator starts at zero. -/
theorem pay3_apply (i : S16.Idx) : (k0_pay3 (F := Ideal) i : EReal) = 0 := Ideal.ofBits_zero_f32

section

variable (X : S16384x392.Idx → EReal) (lab : S16384.Idx → BitVec 32) (hl : ∀ j, (lab j).toNat < 392)

/-- In each lane, the six values kept after `n` classes are the six largest of the first `n` entries of the lane's row. -/
theorem st2_kept (L : grid0.Coords) (t : Fin k0_t1_loop.trips) (y : Fin 16) (n : ℕ) (hn : n ≤ 392) :
    Kept (α := EReal) (row X (rowOf L t y)) n
      ((st2 (F := Ideal) (chunk (F := Ideal) (xf X) L t) n).1 (ix1 y))
      ((st2 (F := Ideal) (chunk (F := Ideal) (xf X) L t) n).2.1 (ix1 y))
      ((st2 (F := Ideal) (chunk (F := Ideal) (xf X) L t) n).2.2.1 (ix1 y))
      ((st2 (F := Ideal) (chunk (F := Ideal) (xf X) L t) n).2.2.2.1 (ix1 y))
      ((st2 (F := Ideal) (chunk (F := Ideal) (xf X) L t) n).2.2.2.2.1 (ix1 y))
      ((st2 (F := Ideal) (chunk (F := Ideal) (xf X) L t) n).2.2.2.2.2 (ix1 y)) := by
  induction n with
  | zero =>
    simp only [st2, pay2_apply]
    exact kept_zero _
  | succ n ih =>
    have h : n < k0_t2_loop.trips := by rw [trips2]; omega
    have hc := col_apply X L t ⟨n, h⟩ y
    have := kept_succ (n := ⟨n, by omega⟩) (ih (by omega)) rfl rfl rfl rfl rfl
    rw [← hc] at this
    rw [st2, dif_pos h]
    exact this

/-- A comparison's bit, widened to a word and read as a number. -/
theorem bit_apply (p : Prop) [Decidable p] :
    ((((BitVec.ofBool (decide p)).setWidth 32).toInt : ℝ) : EReal) = ((if p then 1 else 0 : ℕ) : EReal) := by
  by_cases h : p <;> simp [h]

/-- One group adds, in each lane, the score of the lane's row. -/
theorem accStep_apply (L : grid0.Coords) (t : Fin k0_t1_loop.trips) (y : Fin 16) (a : FVec Ideal S16 .f32) (θ : EReal)
    (hθ : IsSixth (row X (rowOf L t y)) θ) :
    (accStep (F := Ideal) a (st2 (F := Ideal) (chunk (F := Ideal) (xf X) L t) k0_t2_loop.trips)
        (pick (F := Ideal) (xf X) lab hl L t) (ix1 y) : EReal)
      = (a (ix1 y) : EReal) + score (row X (rowOf L t y)) (lbl lab hl (rowOf L t y)) θ := by
  have hk := st2_kept X L t y 392 le_rfl
  rw [show st2 (F := Ideal) (chunk (F := Ideal) (xf X) L t) k0_t2_loop.trips = st2 (F := Ideal) (chunk (F := Ideal) (xf X) L t) 392
    from congrArg _ trips2]
  generalize st2 (F := Ideal) (chunk (F := Ideal) (xf X) L t) 392 = s at hk ⊢
  have e5 : s.2.2.2.2.2 (ix1 y) = θ := hk.isSixth.unique hθ
  have hp := pick_apply X lab hl L t y
  have hcount := hk.count
  rw [e5] at hcount
  unfold accStep k0_pay16
  simp only [ValueIdx.addf_apply, ValueIdx.subf_apply, ValueIdx.divf_apply, ValueIdx.sitofp_apply, ValueIdx.extui_apply, ValueIdx.cmpf_apply, hp, e5]
  show (a (ix1 y) : EReal) + Ideal.div (((((BitVec.ofBool (decide (θ < row X (rowOf L t y) (lbl lab hl (rowOf L t y))))).setWidth 32).toInt : ℝ)) : EReal)
    (((((BitVec.ofBool (decide (θ < (s.1 (ix1 y) : EReal)))).setWidth 32).toInt : ℝ) : EReal)
      + ((((BitVec.ofBool (decide (θ < (s.2.1 (ix1 y) : EReal)))).setWidth 32).toInt : ℝ) : EReal)
      + ((((BitVec.ofBool (decide (θ < (s.2.2.1 (ix1 y) : EReal)))).setWidth 32).toInt : ℝ) : EReal)
      + ((((BitVec.ofBool (decide (θ < (s.2.2.2.1 (ix1 y) : EReal)))).setWidth 32).toInt : ℝ) : EReal)
      + ((((BitVec.ofBool (decide (θ < (s.2.2.2.2.1 (ix1 y) : EReal)))).setWidth 32).toInt : ℝ) : EReal)
      + Ideal.ofBits .f32 0x3F800000#32
      - ((((BitVec.ofBool (decide (θ < row X (rowOf L t y) (lbl lab hl (rowOf L t y))))).setWidth 32).toInt : ℝ) : EReal)) = _
  simp only [bit_apply, ← Nat.cast_add, hcount, Ideal.ofBits_one_f32]
  unfold score hit
  simp only [Nat.cast_ite, Nat.cast_one, Nat.cast_zero]

/-- What the task at `L` leaves in lane `y`: the sum of the scores of the lane's rows. -/
theorem tileOut_apply (L : grid0.Coords) (y : Fin 16) (θ : Fin 16384 → EReal) (hθ : ∀ r, IsSixth (row X r) (θ r)) :
    (tileOut (F := Ideal) (xf X) lab hl L (ix1 y) : EReal)
      = ∑ t : Fin k0_t1_loop.trips, score (row X (rowOf L t y)) (lbl lab hl (rowOf L t y)) (θ (rowOf L t y)) := by
  let f : ℕ → EReal := fun n => if h : n < k0_t1_loop.trips then
    score (row X (rowOf L ⟨n, h⟩ y)) (lbl lab hl (rowOf L ⟨n, h⟩ y)) (θ (rowOf L ⟨n, h⟩ y)) else 0
  have key : ∀ n, n ≤ k0_t1_loop.trips → (st1 (F := Ideal) (xf X) lab hl L n (ix1 y) : EReal) = ∑ t ∈ Finset.range n, f t := by
    intro n hn
    induction n with
    | zero => rw [Finset.sum_range_zero]; exact pay3_apply _
    | succ n ih =>
      have h : n < k0_t1_loop.trips := by omega
      rw [Finset.sum_range_succ, ← ih (by omega), show f n = _ from dif_pos h, ← accStep_apply X lab hl L ⟨n, h⟩ y _ _ (hθ _)]
      exact congrFun (dif_pos h) (ix1 y)
  unfold tileOut
  rw [key _ le_rfl, Finset.sum_range]
  exact Finset.sum_congr rfl fun t _ => dif_pos t.isLt

end

end Cert.Proof.KI

end
-- ==== Proof.RefValue.lean ====
/-
  What the reference computes, at extended reals: its threshold of a row is the row's sixth largest entry
  (`refThr_isSixth`), its two counts of a row are the label's bit and the score's denominator (`inter_apply`,
  `union_apply`), and its result is the sum of the rows' scores over the number of rows (`refOut_apply`).
-/
module

public import proofs.«01_k».proof.Proof.Gen.ReferenceIdeal
public import proofs.«01_k».proof.Proof.Score
public import Idealize.ShloMosaic.Lib.ValueIdx
public import Idealize.ShloMosaic.Lib.IdealHost
public import Idealize.ShloMosaic.Lib.WordCmp
public import Idealize.ShloMosaic.Lib.SortFacts
public import Idealize.ShloMosaic.Lib.Pipeline.Value

@[expose] public section

noncomputable section

namespace Cert.Proof.RI

open Cert.ReferenceIdeal Cert.ReferenceIdeal.Gen Cert.Proof.Top6
open Idealize.ShloMosaic
open Idealize.ShloMosaic.ValueIdx (ix0 ix1 ix2 eq_ix1 eq_ix2)

/-! ## The sort -/

/-- The reference's sorting order is the order of the extended reals. -/
theorem comparator_eq (a b : EReal) : comparator_f32_d1 (F := Ideal) a b = BitVec.ofBool (decide (a < b)) := by
  have canon : ∀ c z w : EReal, Scalar.select (Ideal.cmp .une c c) w (Scalar.select (Ideal.cmp .oeq c z) z c) = c := by
    intro c z w
    by_cases h : c = z <;> simp [Ideal.cmp, Scalar.select, h]
  show Ideal.cmp .olt (Scalar.select (Ideal.cmp .une a a) _ (Scalar.select (Ideal.cmp .oeq a _) _ a))
    (Scalar.select (Ideal.cmp .une b b) _ (Scalar.select (Ideal.cmp .oeq b _) _ b)) = _
  rw [canon, canon]
  rfl

section

variable (X : S16384x392.Idx → EReal) (lab : S16384.Idx → BitVec 32)

/-- The negated probabilities, each row in ascending order. -/
def sorted : S16384x392.Idx → EReal := Host.sort S16384x392 1 (comparator_f32_d1 (F := Ideal)) (Host.negf (F := Ideal) (φ := .f32) X)

/-- Which position of the row an entry of the sorted row comes from. -/
def src (r : Fin 16384) : Fin 392 → Fin 392 :=
  sortedFrom fun k k' => decide (-row X r k < -row X r k')

/-- Entry `j` of a sorted row is minus the entry of the row that the sort puts there. -/
theorem sorted_apply (r : Fin 16384) (j : Fin 392) : sorted X (ix2 r j) = -row X r (src X r j) := by
  have ha : ∀ k : Fin 392, (ix2 r j : S16384x392.Idx).along 1 k = ix2 r k := fun k => by
    funext a
    match a with
    | ⟨0, _⟩ => rfl
    | ⟨1, _⟩ => rfl
  have hs : (fun k k' : Fin 392 => comparator_f32_d1 (F := Ideal) (-(X (ix2 r k))) (-(X (ix2 r k'))) == 1#1)
      = fun k k' => decide (-row X r k < -row X r k') := by
    funext k k'
    rw [comparator_eq]
    unfold row
    by_cases h : -X (ix2 r k) < -X (ix2 r k') <;> simp [h]
  have e : sorted X (ix2 r j)
      = -(X ((ix2 r j : S16384x392.Idx).along 1 (sortedFrom (fun k k' : Fin 392 =>
          comparator_f32_d1 (F := Ideal) (-(X ((ix2 r j : S16384x392.Idx).along 1 k))) (-(X ((ix2 r j : S16384x392.Idx).along 1 k'))) == 1#1) j))) := by
    unfold sorted Host.sort
    rw [dif_pos (show 1 < S16384x392.rank by decide)]
    rfl
  rw [e]
  simp only [ha]
  rw [hs]
  exact congrArg (fun i => -X i) (ha _)

/-- Each sorted row ascends. -/
theorem sorted_mono (r : Fin 16384) : Monotone fun j => sorted X (ix2 r j) := by
  intro i j hij
  simp only [sorted_apply]
  rcases hij.lt_or_eq with h | h
  · have := sortedFrom_noInversion (fun k k' => decide (-row X r k < -row X r k')) (fun k k' => decide (-row X r k < -row X r k'))
      (fun a b h => by simpa using le_of_lt (of_decide_eq_true h)) (fun _ _ h => h)
      (fun a b c h1 h2 => by
        rw [decide_eq_false_iff_not] at h1 h2 ⊢
        exact not_lt.mpr ((not_lt.mp h2).trans (not_lt.mp h1))) i j h
    exact not_lt.mp (of_decide_eq_false this)
  · rw [h]

/-- The reference's threshold of row `r`: minus the entry number five of the sorted row. -/
def refThr (r : Fin 16384) : EReal := -sorted X (ix2 r 5)

/-- The reference's threshold of a row is the row's sixth largest entry. -/
theorem refThr_isSixth (r : Fin 16384) : IsSixth (row X r) (refThr X r) := by
  intro y
  have h := sorted_sixth (fun j => sorted X (ix2 r j)) (fun j => -row X r j) (sorted_mono X r) (src X r)
    ⟨sortedFrom_injective _, sortedFrom_surjective _⟩ (sorted_apply X r) 5 rfl (-y)
  unfold refThr
  rw [EReal.lt_neg_comm, h]
  simp only [EReal.neg_lt_neg_iff]
  rfl

/-! ## The two masks -/

/-- The reference's bit "this class is the row's label". -/
def oneHot : IVec S16384x392 1 :=
  cmpi .ne (extui 32 (cmpi .eq (broadcastInDim S16384x392 ![0, 1] bcast_S16384x1_S16384x392_0_1 (broadcastInDim S16384x1 ![0] bcast_S16384_S16384x1_0 lab))
    (broadcastInDim S16384x392 ![0, 1] bcast_S1x392_S16384x392_0_1 (iotaInDim S1x392 32 1))) natLt_1_32)
    (broadcastInDim S16384x392 ![] bcast_S_S16384x392 (constantI S_ 32 0#32))

/-- The reference's bit "this entry lies above the row's threshold". -/
def above : IVec S16384x392 1 :=
  cmpi .ne (extui 32 (cmpf (F := Ideal) (φ := .f32) .ogt X (broadcastInDim S16384x392 ![0, 1] bcast_S16384x1_S16384x392_0_1
    (broadcastInDim S16384x1 ![0] bcast_S16384_S16384x1_0 (shapeCast S16384 (extractStridedSlice S16384x1 ![0, 5]
      (Host.negf (F := Ideal) (φ := .f32) (sorted X)) slices_S16384x392_S16384x1_0_5) shapeCasts_S16384x1_S16384)))) natLt_1_32)
    (broadcastInDim S16384x392 ![] bcast_S_S16384x392 (constantI S_ 32 0#32))

/-- A bit widened to a word differs from zero exactly when the bit is set. -/
theorem widen_ne_zero (b : BitVec 1) : IntOp.cmpi .ne (b.setWidth 32) 0#32 = b := by
  rw [WordCmp.cmpi_ne_eq]
  revert b
  decide

/-- A column spread over the classes reads the row's entry. -/
theorem column_apply {α : Type} (v : S16384.Idx → α) (r : Fin 16384) (j : Fin 392) :
    broadcastInDim S16384x392 ![0, 1] bcast_S16384x1_S16384x392_0_1 (broadcastInDim S16384x1 ![0] bcast_S16384_S16384x1_0 v) (ix2 r j)
      = v (ix1 r) := by
  refine congrArg v (funext fun (a : Fin 1) => ?_)
  match a with
  | ⟨0, _⟩ => rfl

/-- The one-hot mask is set at the label and nowhere else. -/
theorem oneHot_apply (r : Fin 16384) (j : Fin 392) :
    oneHot lab (ix2 r j) = BitVec.ofBool (decide ((lab (ix1 r)).toNat = j.val)) := by
  have hj := j.isLt
  show IntOp.cmpi .ne ((IntOp.cmpi .eq (broadcastInDim S16384x392 ![0, 1] bcast_S16384x1_S16384x392_0_1
    (broadcastInDim S16384x1 ![0] bcast_S16384_S16384x1_0 lab) (ix2 r j)) (BitVec.ofNat 32 j.val)).setWidth 32) 0#32 = _
  rw [widen_ne_zero, column_apply, WordCmp.cmpi_eq_eq_toNat, WordCmp.toNat_ofNat_of_lt (by omega)]

/-- The top-k mask is set where the row's entry is above the row's threshold. -/
theorem above_apply (r : Fin 16384) (j : Fin 392) :
    above X (ix2 r j) = BitVec.ofBool (decide (refThr X r < row X r j)) := by
  have e : shapeCast S16384 (extractStridedSlice S16384x1 ![0, 5] (Host.negf (F := Ideal) (φ := .f32) (sorted X))
      slices_S16384x392_S16384x1_0_5) shapeCasts_S16384x1_S16384 (ix1 r) = refThr X r := by
    rw [shapeCast_apply _ _ (ix1 r) (ix2 r 0 : S16384x1.Idx) (by
      rw [Shape.rowMajor_val_two, Shape.rowMajor_val_one]
      show r.val * 1 + 0 = r.val
      omega)]
    rw [extractStridedSlice_apply _ _ _ _ (ix2 r 5 : S16384x392.Idx) (fun a => by
      match a with
      | ⟨0, _⟩ => simp
      | ⟨1, _⟩ => rfl)]
    rfl
  show IntOp.cmpi .ne ((Ideal.cmp .ogt (X (ix2 r j)) (broadcastInDim S16384x392 ![0, 1] bcast_S16384x1_S16384x392_0_1
    (broadcastInDim S16384x1 ![0] bcast_S16384_S16384x1_0 (shapeCast S16384 (extractStridedSlice S16384x1 ![0, 5]
      (Host.negf (F := Ideal) (φ := .f32) (sorted X)) slices_S16384x392_S16384x1_0_5) shapeCasts_S16384x1_S16384)) (ix2 r j))).setWidth 32) 0#32 = _
  rw [widen_ne_zero, column_apply, e]
  rfl

end

/-! ## The two counts of a row -/

section

variable (p : Fin 392 → EReal) (l : Fin 392) (θ : EReal)

/-- Over the classes, "the label and above" counts the label's bit. -/
theorem sum_and : (∑ j : Fin 392, ((if l = j ∧ θ < p j then 1 else 0 : ℕ) : EReal)) = hit p l θ := by
  unfold hit
  rw [← Nat.cast_sum]
  simp only [ite_and, Finset.sum_ite_eq, Finset.mem_univ, if_true, Nat.cast_ite, Nat.cast_one, Nat.cast_zero]

/-- Over the classes, "the label or above" counts the entries above and the label, the label once. -/
theorem sum_or : (∑ j : Fin 392, ((if l = j ∨ θ < p j then 1 else 0 : ℕ) : EReal)) = ((cnt p θ : ℕ) : EReal) + 1 - hit p l θ := by
  unfold hit cnt
  rw [← Nat.cast_sum, ← Finset.card_filter]
  by_cases h : θ < p l
  · rw [if_pos h, show (Finset.univ.filter fun j => l = j ∨ θ < p j) = Finset.univ.filter fun j => θ < p j from
      Finset.filter_congr fun j _ => ⟨fun hj => hj.elim (fun e => e ▸ h) id, Or.inr⟩]
    exact (EReal.add_sub_cancel_right (b := 1)).symm
  · rw [if_neg h, show (Finset.univ.filter fun j => l = j ∨ θ < p j) = insert l (Finset.univ.filter fun j => θ < p j) from
      Finset.ext fun j => by simp [eq_comm], Finset.card_insert_of_notMem (by simpa using h), sub_zero]
    push_cast
    rfl

end

/-! ## The result -/

section

variable (X : S16384x392.Idx → EReal) (lab : S16384.Idx → BitVec 32)

/-- The reference's "intersection" of each row. -/
def inter : S16384.Idx → EReal :=
  Host.reduceAdd (F := Ideal) (uitofp (F := Ideal) .f32 (andi (oneHot lab) (above X))) (constant S_ .f32 0x00000000#32) reducesTo_S16384x392_S16384_d1 h_S_

/-- The reference's "union" of each row. -/
def union : S16384.Idx → EReal :=
  Host.reduceAdd (F := Ideal) (uitofp (F := Ideal) .f32 (ori (oneHot lab) (above X))) (constant S_ .f32 0x00000000#32) reducesTo_S16384x392_S16384_d1 h_S_

/-- The reference's result. -/
def refOut : S_.Idx → EReal :=
  Host.divf (F := Ideal) (φ := .f32) (Host.reduceAdd (F := Ideal) (φ := .f32) (Host.divf (F := Ideal) (φ := .f32) (inter X lab) (union X lab))
    (constant S_ .f32 0x00000000#32) reducesTo_S16384_S_d0 h_S_) (constant S_ .f32 0x46800000#32)

/-- The sum of a row's bits. -/
theorem rowSum_apply (b : IVec S16384x392 1) (r : Fin 16384) (P : Fin 392 → Prop) [DecidablePred P]
    (hb : ∀ j, b (ix2 r j) = BitVec.ofBool (decide (P j))) :
    (Host.reduceAdd (F := Ideal) (uitofp (F := Ideal) .f32 b) (constant S_ .f32 0x00000000#32) reducesTo_S16384x392_S16384_d1 h_S_ (ix1 r) : EReal)
      = ∑ j : Fin 392, ((if P j then 1 else 0 : ℕ) : EReal) := by
  have hr : S16384x392.Reduces [1] S16384 := by decide
  have hlift : ∀ j : Fin 392, hr.lift (ix1 r) j = ix2 r j := fun j => by
    funext a
    match a with
    | ⟨0, _⟩ => rfl
    | ⟨1, _⟩ => rfl
  rw [ValueIdx.hostReduceAdd_apply, Ideal.hostReduceAdd_single reducesTo_S16384x392_S16384_d1 hr]
  rw [show (constant (F := Ideal) S_ .f32 0x00000000#32 (Shape.Idx.first h_S_) : EReal) = 0 from Ideal.ofBits_zero_f32, zero_add]
  refine Finset.sum_congr rfl fun j _ => ?_
  refine (congrArg (fun w : BitVec 1 => ((w.toNat : ℝ) : EReal)) ((congrArg b (hlift j)).trans (hb j))).trans ?_
  by_cases h : P j <;> simp [h]

variable (hl : ∀ j, (lab j).toNat < 392)

/-- The intersection of the two masks of a row has one element if the label's entry is above the threshold, else none. -/
theorem inter_apply (r : Fin 16384) : inter X lab (ix1 r) = hit (row X r) (lbl lab hl r) (refThr X r) := by
  rw [← sum_and]
  refine rowSum_apply _ r (fun j => lbl lab hl r = j ∧ refThr X r < row X r j) fun j => ?_
  show IntOp.andi (oneHot lab (ix2 r j)) (above X (ix2 r j)) = _
  rw [oneHot_apply, above_apply, WordCmp.andi_ofBool, ← Bool.decide_and]
  simp only [lbl, Fin.ext_iff]

/-- The union of the two masks of a row has as many elements as there are entries above the threshold, and one more
    if the label's entry is not among them. -/
theorem union_apply (r : Fin 16384) :
    union X lab (ix1 r) = ((cnt (row X r) (refThr X r) : ℕ) : EReal) + 1 - hit (row X r) (lbl lab hl r) (refThr X r) := by
  rw [← sum_or]
  refine rowSum_apply _ r (fun j => lbl lab hl r = j ∨ refThr X r < row X r j) fun j => ?_
  show IntOp.ori (oneHot lab (ix2 r j)) (above X (ix2 r j)) = _
  rw [oneHot_apply, above_apply, WordCmp.ori_ofBool, ← Bool.decide_or]
  simp only [lbl, Fin.ext_iff]

/-- The reference's result: the sum of the rows' scores over the number of rows. -/
theorem refOut_apply (i : S_.Idx) :
    refOut X lab i = Ideal.div (∑ r : Fin 16384, score (row X r) (lbl lab hl r) (refThr X r)) (Ideal.ofBits .f32 0x46800000#32) := by
  unfold refOut
  rw [ValueIdx.hostDivf_apply, ValueIdx.hostReduceAdd_apply, Ideal.hostReduceAdd_total reducesTo_S16384_S_d0 (fun b => b.elim0)]
  rw [show (constant (F := Ideal) S_ .f32 0x00000000#32 (Shape.Idx.first h_S_) : EReal) = 0 from Ideal.ofBits_zero_f32, zero_add]
  rw [ValueIdx.constant_apply]
  have e : ∀ r : Fin 16384, Host.divf (F := Ideal) (φ := .f32) (inter X lab) (union X lab) (ix1 r)
      = score (row X r) (lbl lab hl r) (refThr X r) := fun r => by
    rw [ValueIdx.hostDivf_apply, inter_apply X lab hl, union_apply X lab hl]
    rfl
  rw [← Equiv.sum_comp (ValueIdx.idxEquiv1 (n := 16384)).symm]
  exact congrArg (Ideal.div · (Ideal.ofBits .f32 0x46800000#32)) (Finset.sum_congr rfl fun r _ => e r)

end

end Cert.Proof.RI

end
-- ==== Proof.Equation.lean ====
/-
  The equation: at extended reals, and with every label a class, the kernel's result is the reference's
  (`total_partials_eq`). Each task's lanes sum the scores of their own rows, the tasks' lanes together have every row
  once, and both results divide the sum by the number of rows.
-/
module

public import proofs.«01_k».proof.Proof.TileValue
public import proofs.«01_k».proof.Proof.RefValue
public import proofs.«01_k».proof.Proof.IdealLaunch

@[expose] public section

noncomputable section

namespace Cert.Proof.KI

open Cert.KernelIdeal Cert.KernelIdeal.Gen Cert.Proof.Top6
open Idealize.ShloMosaic
open Idealize.ShloMosaic.ValueIdx (ix1 ix2)

/-- Which row of the problem lane `y` of group `t` of task `w` works on. -/
theorem rowOf_Lof (w : Fin 32) (t : Fin k0_t1_loop.trips) (y : Fin 16) :
    (rowOf (Lof w) t y).val = 512 * w.val + 16 * t.val + y.val := by
  show 1024 * (w.val / 2) + 512 * (w.val % 2) + 16 * t.val + y.val = _
  omega

/-- The rows, by task, lane and group: each row is some lane's in one group of one task. -/
def rowEquiv : Fin 32 × Fin 16 × Fin k0_t1_loop.trips ≃ Fin 16384 where
  toFun i := rowOf (Lof i.1) i.2.2 i.2.1
  invFun r := (⟨r.val / 512, by omega⟩, ⟨r.val % 16, by omega⟩, ⟨r.val % 512 / 16, Nat.lt_of_lt_of_eq (by omega) trips1.symm⟩)
  left_inv := by
    rintro ⟨w, y, t⟩
    have ht : t.val < 32 := Nat.lt_of_lt_of_eq t.isLt trips1
    refine Prod.ext (Fin.ext ?_) (Prod.ext (Fin.ext ?_) (Fin.ext ?_)) <;>
      simp only [rowOf_Lof] <;> omega
  right_inv r := Fin.ext (by simp only [rowOf_Lof]; omega)

variable (X : S16384x392.Idx → EReal) (lab : S16384.Idx → BitVec 32) (hl : ∀ j, (lab j).toNat < 392)

/-- The partial sums add up to the sum of the scores of all rows. -/
theorem sum_partials (θ : Fin 16384 → EReal) (hθ : ∀ r, IsSixth (row X r) (θ r)) :
    (∑ i : S32x16.Idx, (partials (F := Ideal) (xf X) lab hl i : EReal)) = ∑ r : Fin 16384, score (row X r) (lbl lab hl r) (θ r) := by
  rw [ValueIdx.sum_idx2, ← Equiv.sum_comp rowEquiv, Fintype.sum_prod_type]
  refine Finset.sum_congr rfl fun w _ => ?_
  rw [Fintype.sum_prod_type]
  exact Finset.sum_congr rfl fun y _ => tileOut_apply X lab hl (Lof w) y θ hθ

/-- The kernel's result is the reference's. -/
theorem total_partials_eq : total (F := Ideal) (partials (F := Ideal) (xf X) lab hl) = Cert.Proof.RI.refOut X lab := by
  funext i
  rw [Cert.Proof.RI.refOut_apply X lab hl i, ← sum_partials X lab hl _ (Cert.Proof.RI.refThr_isSixth X)]
  unfold total
  rw [ValueIdx.hostDivf_apply, ValueIdx.hostReduceAdd_apply, Ideal.hostReduceAdd_total reducesTo_S32x16_S_d0_1 (fun b => b.elim0)]
  rw [show (constant (F := Ideal) S_ .f32 0x00000000#32 (Shape.Idx.first h_S_) : EReal) = 0 from Ideal.ofBits_zero_f32, zero_add]
  rfl

end Cert.Proof.KI

end
-- ==== Proof.LabelRange.lean ====
/-
  The precondition read off: where `label_in_range` holds, every label is a class, as a natural number (`label_lt`).
-/
module

public import proofs.«01_k».proof.Proof.Gen.Pre_label_in_range
public import Idealize.ShloMosaic.Lib.ReduceAll
public import Idealize.ShloMosaic.Lib.WordCmp
public import Idealize.ShloMosaic.Lib.ValueIdxCore

@[expose] public section

namespace Cert.Proof

open Idealize.ShloMosaic Cert.Pre_label_in_range Cert.Pre_label_in_range.Gen

/-- Where `label_in_range` is true of the two arrays, each label is below 392. -/
theorem label_lt {F : FTy → Type} [FloatOps F] (x : FVec F S16384x392 .f32) (lab : IVec S16384 32)
    (h : fn (F := F) x lab = fun _ => 1#1) (j : S16384.Idx) : (lab j).toNat < 392 := by
  haveI : Subsingleton S_.Idx := ⟨fun a b => funext fun i => i.elim0⟩
  obtain ⟨h1, h2⟩ := IntOp.andi_eq_one.1 (congrFun h ValueIdx.ix0)
  have g1 : IntOp.cmpi .sge (lab j) 0#32 = 1#1 := Host.reduce_andi_all _ _ _ _ _ h1 j
  have g2 : IntOp.cmpi .slt (lab j) (BitVec.ofNat 32 392) = 1#1 := Host.reduce_andi_all _ _ _ _ _ h2 j
  have g := WordCmp.andi_sge_zero_slt_ofNat (w := 32) (k := 392) (by decide) (lab j)
  rw [g1, g2] at g
  exact (WordCmp.ofBool_decide_eq_one_iff _).1 (g.symm.trans (by decide))

end Cert.Proof
-- ==== Proof.lean ====
/-
  The proof of `Cert.Claim`, assembled.

  * The two programs of the kernel — at the bit-exact floats and at the extended reals — run by Proof/BitsTile,
    BitsBody, BitsLaunch and Proof/IdealTile, IdealBody, IdealLaunch: the run ends with the two arguments unchanged,
    every counter zero, and the result at a closed term of the arguments.
  * The reference runs by the generated Proof/Gen/ReferenceIdeal/Run; it declares no semaphore.
  * The two closed terms are equal at the extended reals by Proof/Equation, from Proof/Top6 (the sixth largest entry of
    a row), Proof/Score (a row's score), Proof/TileValue (what a task's lane sums) and Proof/RefValue (what the
    reference computes).
  * The precondition is read off by Proof/LabelRange.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_label_in_range
public import proofs.«01_k».proof.Proof.BitsLaunch
public import proofs.«01_k».proof.Proof.IdealLaunch
public import proofs.«01_k».proof.Proof.Equation
public import proofs.«01_k».proof.Proof.LabelRange
public import Idealize.ShloMosaic.Lib.Quiescent
public import Idealize.ShloMosaic.Adequacy
public import Idealize.ShloMosaic.Init

@[expose] public section

noncomputable section

namespace Cert.Proof

open Idealize.ShloMosaic Idealize.SL.Sem

/-- The kernel's program, bit-exact: under the precondition it runs, leaves its arguments unchanged and every counter
    zero. -/
theorem frame_p : Cert.quiescent_Kernel := fun m ρ hp =>
  (θ_run _ _ _).mono (fun _ h => ⟨fun c => (h.1 c).2, h.2⟩)
    (KB.run_main (F := Bits) m ρ (fun d => label_lt _ _ (hp d)))

/-- The kernel's program at the extended reals: likewise. -/
theorem frame_pi : Cert.quiescent_KernelIdeal := fun m ρ hp =>
  (θ_run _ _ _).mono (fun _ h => ⟨fun c => (h.1 c).2, h.2⟩)
    (KI.run_main (F := Ideal) m ρ (fun d => label_lt _ _ (hp d)))

/-- The reference's run, of any start: it declares no semaphore, so every counter is zero. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems rfl r.2⟩) (Cert.ReferenceIdeal.Value.run (F := Ideal) m ρ)

/-- The kernel and the reference end with equal results at the extended reals, under the precondition. -/
theorem value : Cert.algebraic_KernelIdeal_ReferenceIdeal := fun m ρ m' ρ' hp hm =>
  have hl : KI.PreOK m := fun d => label_lt _ _ (hp d)
  ⟨fun c => KI.total (KI.sums m hl c),
    (θ_run _ _ _).mono (fun _ h c => h.1 c) (KI.run_main (F := Ideal) m ρ hl),
    (θ_run _ _ _).mono (fun r h c => ⟨(h c).1.trans (by
        rw [(hm c).1, (hm c).2]
        exact (KI.total_partials_eq (m (KI.aLoc c)) (m (KI.lLoc c)) (hl c)).symm), (h c).2⟩)
      (Cert.ReferenceIdeal.Value.run (F := Ideal) m' ρ')⟩

/-- The claim. -/
theorem claim : Cert.Claim :=
  ⟨Cert.Kernel.Gen.facts, Cert.KernelIdeal.Gen.facts, Cert.ReferenceIdeal.Gen.facts, Cert.Pre_label_in_range.Gen.facts,
    frame_p, frame_pi, fun m ρ _ => frame_r m ρ, fun m ρ _ => frame_r m ρ, trivial, value⟩

end Cert.Proof

end
